-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S1024x1024 : Shape := ⟨2, ![1024, 1024]⟩
abbrev S4x1024x1024 : Shape := ⟨3, ![4, 1024, 1024]⟩
abbrev S8x1024x1024 : Shape := ⟨3, ![8, 1024, 1024]⟩
abbrev S2x1024x1024 : Shape := ⟨3, ![2, 1024, 1024]⟩
abbrev S51 : Shape := ⟨1, ![51]⟩
abbrev S2 : Shape := ⟨1, ![2]⟩
abbrev S_ : Shape := ⟨0, ![]⟩
abbrev S1x1024x1024 : Shape := ⟨3, ![1, 1024, 1024]⟩
abbrev S1x512x1024 : Shape := ⟨3, ![1, 512, 1024]⟩
abbrev S512x1024 : Shape := ⟨2, ![512, 1024]⟩
abbrev S1024x512 : Shape := ⟨2, ![1024, 512]⟩

abbrev nBuf : Space → Nat
  | .hbm => 5
  | .vmem => 9
  | .smem => 2
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S1024x1024, .f32⟩
  | .local _ .vmem, ⟨1, _⟩ => ⟨S1024x1024, .f32⟩
  | .local _ .vmem, ⟨2, _⟩ => ⟨S4x1024x1024, .fp8e4m3⟩
  | .local _ .vmem, ⟨3, _⟩ => ⟨S8x1024x1024, .fp8e4m3⟩
  | .local _ .vmem, ⟨4, _⟩ => ⟨S8x1024x1024, .fp8e4m3⟩
  | .local _ .vmem, ⟨5, _⟩ => ⟨S8x1024x1024, .fp8e4m3⟩
  | .local _ .vmem, ⟨6, _⟩ => ⟨S1024x8192, .fp8e4m3⟩
  | .local _ .vmem, ⟨7, _⟩ => ⟨S4096x1024, .fp8e4m3⟩
  | .local _ .vmem, ⟨8, _⟩ => ⟨S2x1024x1024, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  (ofTc nBuf bufTy 1 108 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_stg2_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_6 : BitVec 32 := 0#32
  let v12 : BitVec 1 := Scalar.cmpi .ne v11 c0_i32_6
  v12

def k0_dev1 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_166 : BitVec 32 := 1#32
  let v236 : BitVec 32 := Scalar.muli v5 c1_i32_166
  let v237 : BitVec 32 := Scalar.addi c0_i32_167 v236
  v237.toNat
def k0_dev2 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_169 : BitVec 32 := 1#32
  let v238 : BitVec 32 := Scalar.muli v7 c1_i32_169
  let v239 : BitVec 32 := Scalar.addi c0_i32_170 v238
  v239.toNat
def k0_dev3 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_172 : BitVec 32 := 1#32
  let v240 : BitVec 32 := Scalar.muli v9 c1_i32_172
  let v241 : BitVec 32 := Scalar.addi c0_i32_173 v240
  v241.toNat
def k0_dev4 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_177 : BitVec 32 := 1#32
  let v242 : BitVec 32 := Scalar.muli v7 c1_i32_177
  let v243 : BitVec 32 := Scalar.addi c0_i32_178 v242
  v243.toNat
def k0_dev5 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_186 : BitVec 32 := 1#32
  let v251 : BitVec 32 := Scalar.muli v7 c1_i32_186
  let v252 : BitVec 32 := Scalar.addi c0_i32_187 v251
  v252.toNat
def k0_dev6 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_195 : BitVec 32 := 1#32
  let v260 : BitVec 32 := Scalar.muli v5 c1_i32_195
  let v261 : BitVec 32 := Scalar.addi c0_i32_196 v260
  v261.toNat
def k0_dev7 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_204 : BitVec 32 := 1#32
  let v269 : BitVec 32 := Scalar.muli v5 c1_i32_204
  let v270 : BitVec 32 := Scalar.addi c0_i32_205 v269
  v270.toNat
def k0_off1 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1024_i32_210 : BitVec 32 := 1024#32
  let v278 : BitVec 32 := Scalar.muli v7 c1024_i32_210
  let c0_i32_215 : BitVec 32 := 0#32
  ![v278.toNat, 0]
def k0_off2 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1024_i32_224 : BitVec 32 := 1024#32
  let v292 : BitVec 32 := Scalar.muli v7 c1024_i32_224
  let v293 : Index := Scalar.indexCast v292
  let c0_225 : Index := 0#32
  ![v293.toNat, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_230 : BitVec 32 := 0#32
  let c0_i32_231 : BitVec 32 := 0#32
  ![v2.toNat, 0, 0]
def k0_dev8 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_228 : BitVec 32 := 1#32
  let v298 : BitVec 32 := Scalar.muli v7 c1_i32_228
  let v299 : BitVec 32 := Scalar.addi c0_i32_229 v298
  v299.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_233 : BitVec 32 := 1024#32
  let v307 : BitVec 32 := Scalar.muli v5 c1024_i32_233
  let c0_i32_238 : BitVec 32 := 0#32
  ![v307.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_246 : BitVec 32 := 1024#32
  let v321 : BitVec 32 := Scalar.muli v5 c1024_i32_246
  let v322 : Index := Scalar.indexCast v321
  let c0_247 : Index := 0#32
  ![v322.toNat, 0]
def k0_dev9 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_250 : BitVec 32 := 1#32
  let v327 : BitVec 32 := Scalar.muli v5 c1_i32_250
  let v328 : BitVec 32 := Scalar.addi c0_i32_251 v327
  v328.toNat
def k0_dev10 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_273 : BitVec 32 := 1#32
  let v356 : BitVec 32 := Scalar.muli v9 c1_i32_273
  let v357 : BitVec 32 := Scalar.addi c0_i32_274 v356
  v357.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_294 : BitVec 32 := 1024#32
  let v381 : BitVec 32 := Scalar.muli v2 c1024_i32_294
  let c0_i32_299 : BitVec 32 := 0#32
  ![v381.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_308 : BitVec 32 := 1024#32
  let v395 : BitVec 32 := Scalar.muli v2 c1024_i32_308
  let v396 : Index := Scalar.indexCast v395
  let c0_309 : Index := 0#32
  ![v396.toNat, 0]
def k0_cond2 (i : grid0.Coords) : BitVec 1 :=
  let arg0 : BitVec 32 := BitVec.ofNat 32 (i 0).val
  let c1_i32_7 : BitVec 32 := 1#32
  let v13 : BitVec 1 := Scalar.cmpi .sge arg0 c1_i32_7
  let c7_i32 : BitVec 32 := 7#32
  let v14 : BitVec 1 := Scalar.cmpi .slt arg0 c7_i32
  let v15 : BitVec 1 := Scalar.andi v13 v14
  let v16 : BitVec 32 := Scalar.extui v15
  let c0_i32_8 : BitVec 32 := 0#32
  let v17 : BitVec 1 := Scalar.cmpi .ne v16 c0_i32_8
  v17

def k0_off8 (i : grid0.Coords) : Fin 1 → Nat :=
  let arg0 : BitVec 32 := BitVec.ofNat 32 (i 0).val
  let c2_i32_149 : BitVec 32 := 2#32
  let c0_i32_150 : BitVec 32 := 0#32
  let v220 : BitVec 1 := Scalar.cmpi .eq c2_i32_149 c0_i32_150
  let c1_i32_151 : BitVec 32 := 1#32
  let v221 : BitVec 32 := Scalar.select v220 c1_i32_151 c2_i32_149
  let v222 : BitVec 32 := Scalar.remsi arg0 v221
  let c0_i32_153 : BitVec 32 := 0#32
  let v224 : BitVec 1 := Scalar.cmpi .slt v222 c0_i32_153
  let c0_i32_154 : BitVec 32 := 0#32
  let v225 : BitVec 1 := Scalar.cmpi .slt v221 c0_i32_154
  let v226 : BitVec 1 := Scalar.xori v224 v225
  let c0_i32_152 : BitVec 32 := 0#32
  let v223 : BitVec 1 := Scalar.cmpi .ne v222 c0_i32_152
  let v227 : BitVec 1 := Scalar.andi v226 v223
  let v228 : BitVec 32 := Scalar.addi v222 v221
  let v229 : BitVec 32 := Scalar.select v227 v228 v222
  ![v229.toNat]
def k0_off9 (i : grid0.Coords) : Fin 3 → Nat :=
  let arg0 : BitVec 32 := BitVec.ofNat 32 (i 0).val
  let c2_i32_149 : BitVec 32 := 2#32
  let c0_i32_150 : BitVec 32 := 0#32
  let v220 : BitVec 1 := Scalar.cmpi .eq c2_i32_149 c0_i32_150
  let c1_i32_151 : BitVec 32 := 1#32
  let v221 : BitVec 32 := Scalar.select v220 c1_i32_151 c2_i32_149
  let v222 : BitVec 32 := Scalar.remsi arg0 v221
  let c0_i32_153 : BitVec 32 := 0#32
  let v224 : BitVec 1 := Scalar.cmpi .slt v222 c0_i32_153
  let c0_i32_154 : BitVec 32 := 0#32
  let v225 : BitVec 1 := Scalar.cmpi .slt v221 c0_i32_154
  let v226 : BitVec 1 := Scalar.xori v224 v225
  let c0_i32_152 : BitVec 32 := 0#32
  let v223 : BitVec 1 := Scalar.cmpi .ne v222 c0_i32_152
  let v227 : BitVec 1 := Scalar.andi v226 v223
  let v228 : BitVec 32 := Scalar.addi v222 v221
  let v229 : BitVec 32 := Scalar.select v227 v228 v222
  let c0_i32_156 : BitVec 32 := 0#32
  let c0_i32_157 : BitVec 32 := 0#32
  ![v229.toNat, 0, 0]
def k0_off10 (i : grid0.Coords) : Fin 2 → Nat :=
  let c0_i32_158 : BitVec 32 := 0#32
  let arg0 : BitVec 32 := BitVec.ofNat 32 (i 0).val
  let c1_i32_148 : BitVec 32 := 1#32
  let v219 : BitVec 32 := Scalar.addi arg0 c1_i32_148
  let c1024_i32_155 : BitVec 32 := 1024#32
  let v230 : BitVec 32 := Scalar.muli v219 c1024_i32_155
  ![0, v230.toNat]
def k0_off11 (i : grid0.Coords) : Fin 3 → Nat :=
  let arg0 : BitVec 32 := BitVec.ofNat 32 (i 0).val
  let c2_i32_149 : BitVec 32 := 2#32
  let c0_i32_150 : BitVec 32 := 0#32
  let v220 : BitVec 1 := Scalar.cmpi .eq c2_i32_149 c0_i32_150
  let c1_i32_151 : BitVec 32 := 1#32
  let v221 : BitVec 32 := Scalar.select v220 c1_i32_151 c2_i32_149
  let v222 : BitVec 32 := Scalar.remsi arg0 v221
  let c0_i32_153 : BitVec 32 := 0#32
  let v224 : BitVec 1 := Scalar.cmpi .slt v222 c0_i32_153
  let c0_i32_154 : BitVec 32 := 0#32
  let v225 : BitVec 1 := Scalar.cmpi .slt v221 c0_i32_154
  let v226 : BitVec 1 := Scalar.xori v224 v225
  let c0_i32_152 : BitVec 32 := 0#32
  let v223 : BitVec 1 := Scalar.cmpi .ne v222 c0_i32_152
  let v227 : BitVec 1 := Scalar.andi v226 v223
  let v228 : BitVec 32 := Scalar.addi v222 v221
  let v229 : BitVec 32 := Scalar.select v227 v228 v222
  let v241 : Index := Scalar.indexCast v229
  let c0_162 : Index := 0#32
  let c0_163 : Index := 0#32
  ![v241.toNat, 0, 0]
def k0_off12 (i : grid0.Coords) : Fin 2 → Nat :=
  let c0_165 : Index := 0#32
  let arg0 : BitVec 32 := BitVec.ofNat 32 (i 0).val
  let c1_i32_148 : BitVec 32 := 1#32
  let v219 : BitVec 32 := Scalar.addi arg0 c1_i32_148
  let c1024_i32_164 : BitVec 32 := 1024#32
  let v245 : BitVec 32 := Scalar.muli v219 c1024_i32_164
  let v246 : Index := Scalar.indexCast v245
  ![0, v246.toNat]
def k0_off13 (i : grid0.Coords) : Fin 1 → Nat :=
  let arg0 : BitVec 32 := BitVec.ofNat 32 (i 0).val
  ![arg0.toNat]
def k0_off14 (i : grid0.Coords) : Fin 2 → Nat :=
  let c0_i32_10 : BitVec 32 := 0#32
  let arg0 : BitVec 32 := BitVec.ofNat 32 (i 0).val
  let c1024_i32 : BitVec 32 := 1024#32
  let v18 : BitVec 32 := Scalar.muli arg0 c1024_i32
  ![0, v18.toNat]
def k0_off15 (i : grid0.Coords) : Fin 3 → Nat :=
  let arg0 : BitVec 32 := BitVec.ofNat 32 (i 0).val
  let c0_i32_11 : BitVec 32 := 0#32
  let c0_i32_12 : BitVec 32 := 0#32
  ![arg0.toNat, 0, 0]
def k0_off16 (i : grid0.Coords) (c32_i32 : BitVec 32) : Fin 1 → Nat :=
  let arg0 : BitVec 32 := BitVec.ofNat 32 (i 0).val
  let v31 : BitVec 32 := Scalar.addi c32_i32 arg0
  ![v31.toNat]
def k0_dev11 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_18 : BitVec 32 := 1#32
  let v32 : BitVec 32 := Scalar.muli v7 c1_i32_18
  let v33 : BitVec 32 := Scalar.addi c0_i32_19 v32
  v33.toNat
def k0_off17 (i : grid0.Coords) : Fin 2 → Nat :=
  let c512_i32 : BitVec 32 := 512#32
  let arg0 : BitVec 32 := BitVec.ofNat 32 (i 0).val
  let c1024_i32_24 : BitVec 32 := 1024#32
  let v43 : BitVec 32 := Scalar.muli arg0 c1024_i32_24
  ![512, v43.toNat]
def k0_off18 (i : grid0.Coords) : Fin 3 → Nat :=
  let arg0 : BitVec 32 := BitVec.ofNat 32 (i 0).val
  let c512_i32_26 : BitVec 32 := 512#32
  let c0_i32_27 : BitVec 32 := 0#32
  ![arg0.toNat, 512, 0]
def k0_dev12 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_33 : BitVec 32 := 1#32
  let v57 : BitVec 32 := Scalar.muli v5 c1_i32_33
  let v58 : BitVec 32 := Scalar.addi c0_i32_34 v57
  v58.toNat
def k0_cond3 (i : grid0.Coords) : BitVec 1 :=
  let arg0 : BitVec 32 := BitVec.ofNat 32 (i 0).val
  let c7_i32_39 : BitVec 32 := 7#32
  let v67 : BitVec 1 := Scalar.cmpi .slt arg0 c7_i32_39
  let v68 : BitVec 32 := Scalar.extui v67
  let c0_i32_40 : BitVec 32 := 0#32
  let v69 : BitVec 1 := Scalar.cmpi .ne v68 c0_i32_40
  v69

def k0_off19 (i : grid0.Coords) : Fin 1 → Nat :=
  let arg0 : BitVec 32 := BitVec.ofNat 32 (i 0).val
  let c1_i32_148 : BitVec 32 := 1#32
  let v219 : BitVec 32 := Scalar.addi arg0 c1_i32_148
  ![v219.toNat]
def k0_off20 (i : grid0.Coords) : Fin 3 → Nat :=
  let arg0 : BitVec 32 := BitVec.ofNat 32 (i 0).val
  let c1_i32_148 : BitVec 32 := 1#32
  let v219 : BitVec 32 := Scalar.addi arg0 c1_i32_148
  let c0_i32_152 : BitVec 32 := 0#32
  let c0_i32_153 : BitVec 32 := 0#32
  ![v219.toNat, 0, 0]
def k0_off21 (i : grid0.Coords) : Fin 2 → Nat :=
  let c0_i32_154 : BitVec 32 := 0#32
  let arg0 : BitVec 32 := BitVec.ofNat 32 (i 0).val
  let c1_i32_148 : BitVec 32 := 1#32
  let v219 : BitVec 32 := Scalar.addi arg0 c1_i32_148
  let c1024_i32_149 : BitVec 32 := 1024#32
  let v220 : BitVec 32 := Scalar.muli v219 c1024_i32_149
  ![0, v220.toNat]
def k0_dev13 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_150 : BitVec 32 := 1#32
  let v221 : BitVec 32 := Scalar.muli v7 c1_i32_150
  let v222 : BitVec 32 := Scalar.addi c0_i32_151 v221
  v222.toNat
def k0_off22 (i : grid0.Coords) (c8_i32_155 : BitVec 32) : Fin 1 → Nat :=
  let arg0 : BitVec 32 := BitVec.ofNat 32 (i 0).val
  let c1_i32_148 : BitVec 32 := 1#32
  let v219 : BitVec 32 := Scalar.addi arg0 c1_i32_148
  let v230 : BitVec 32 := Scalar.addi c8_i32_155 v219
  ![v230.toNat]
def k0_off23 (i : grid0.Coords) : Fin 3 → Nat :=
  let arg0 : BitVec 32 := BitVec.ofNat 32 (i 0).val
  let c1_i32_148 : BitVec 32 := 1#32
  let v219 : BitVec 32 := Scalar.addi arg0 c1_i32_148
  let c512_i32_159 : BitVec 32 := 512#32
  let c0_i32_160 : BitVec 32 := 0#32
  ![v219.toNat, 512, 0]
def k0_off24 (i : grid0.Coords) : Fin 2 → Nat :=
  let c512_i32_161 : BitVec 32 := 512#32
  let arg0 : BitVec 32 := BitVec.ofNat 32 (i 0).val
  let c1_i32_148 : BitVec 32 := 1#32
  let v219 : BitVec 32 := Scalar.addi arg0 c1_i32_148
  let c1024_i32_156 : BitVec 32 := 1024#32
  let v231 : BitVec 32 := Scalar.muli v219 c1024_i32_156
  ![512, v231.toNat]
def k0_dev14 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_157 : BitVec 32 := 1#32
  let v232 : BitVec 32 := Scalar.muli v7 c1_i32_157
  let v233 : BitVec 32 := Scalar.addi c0_i32_158 v232
  v233.toNat
def k0_dev15 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_164 : BitVec 32 := 1#32
  let v243 : BitVec 32 := Scalar.muli v5 c1_i32_164
  let v244 : BitVec 32 := Scalar.addi c0_i32_165 v243
  v244.toNat
def k0_dev16 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_171 : BitVec 32 := 1#32
  let v254 : BitVec 32 := Scalar.muli v5 c1_i32_171
  let v255 : BitVec 32 := Scalar.addi c0_i32_172 v254
  v255.toNat
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : Index := Scalar.indexCast v2
  let c0 : Index := 0#32
  let c0_41 : Index := 0#32
  ![v70.toNat, 0, 0]
def k0_off26 (i : grid0.Coords) : Fin 2 → Nat :=
  let c0_43 : Index := 0#32
  let arg0 : BitVec 32 := BitVec.ofNat 32 (i 0).val
  let c1024_i32_42 : BitVec 32 := 1024#32
  let v73 : BitVec 32 := Scalar.muli arg0 c1024_i32_42
  let v74 : Index := Scalar.indexCast v73
  ![0, v74.toNat]
def k0_cond4 (i : grid0.Coords) : BitVec 1 :=
  let arg0 : BitVec 32 := BitVec.ofNat 32 (i 0).val
  let c0_i32_46 : BitVec 32 := 0#32
  let v78 : BitVec 1 := Scalar.cmpi .eq arg0 c0_i32_46
  let v79 : BitVec 32 := Scalar.extui v78
  let c0_i32_47 : BitVec 32 := 0#32
  let v80 : BitVec 1 := Scalar.cmpi .ne v79 c0_i32_47
  v80

def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1024_i32_148 : BitVec 32 := 1024#32
  let v219 : BitVec 32 := Scalar.muli v7 c1024_i32_148
  let c0_i32_151 : BitVec 32 := 0#32
  ![v219.toNat, 0]
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_152 : BitVec 32 := 0#32
  let c0_i32_153 : BitVec 32 := 0#32
  ![v2.toNat, 0, 0]
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_161 : BitVec 32 := 1024#32
  let v232 : BitVec 32 := Scalar.muli v5 c1024_i32_161
  let c0_i32_164 : BitVec 32 := 0#32
  ![v232.toNat, 0]
def k0_off30 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v83 : Index := Scalar.indexCast v5
  let c0_50 : Index := 0#32
  let c0_51 : Index := 0#32
  ![v83.toNat, 0, 0]
def k0_off31 (i : grid0.Coords) : Fin 3 → Nat :=
  let arg0 : BitVec 32 := BitVec.ofNat 32 (i 0).val
  let v87 : Index := Scalar.indexCast arg0
  let c0_52 : Index := 0#32
  let c0_53 : Index := 0#32
  ![v87.toNat, 0, 0]
def k0_off32 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v95 : Index := Scalar.indexCast v7
  let c0_59 : Index := 0#32
  let c0_60 : Index := 0#32
  ![v95.toNat, 0, 0]
def k0_off33 (i : grid0.Coords) : Fin 3 → Nat :=
  let arg0 : BitVec 32 := BitVec.ofNat 32 (i 0).val
  let v99 : Index := Scalar.indexCast arg0
  let c512 : Index := 512#32
  let c0_61 : Index := 0#32
  ![v99.toNat, 512, 0]
def k0_cond5 (i : grid0.Coords) : BitVec 1 :=
  let arg0 : BitVec 32 := BitVec.ofNat 32 (i 0).val
  let c0_i32_103 : BitVec 32 := 0#32
  let v157 : BitVec 1 := Scalar.cmpi .eq arg0 c0_i32_103
  let v158 : BitVec 32 := Scalar.extui v157
  let c0_i32_104 : BitVec 32 := 0#32
  let v159 : BitVec 1 := Scalar.cmpi .ne v158 c0_i32_104
  v159

def k0_off34 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1024_i32_148 : BitVec 32 := 1024#32
  let v219 : BitVec 32 := Scalar.muli v9 c1024_i32_148
  let c0_i32_151 : BitVec 32 := 0#32
  ![v219.toNat, 0]
def k0_off35 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_152 : BitVec 32 := 0#32
  let c0_i32_153 : BitVec 32 := 0#32
  ![v2.toNat, 0, 0]
def k0_off36 (i : grid0.Coords) : Fin 3 → Nat :=
  let arg0 : BitVec 32 := BitVec.ofNat 32 (i 0).val
  let v195 : Index := Scalar.indexCast arg0
  let c0_133 : Index := 0#32
  let c0_134 : Index := 0#32
  ![v195.toNat, 0, 0]
def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Proto.lean ====
/-
# `Proto`: what the four devices say to one another

Device `c` sends 51 messages: six halves of each of the eight weight tiles (`Kd`: the four halves its two neighbours
get of its own tile, and the two halves it passes on), and its three blocks of `x`. Each message has a send semaphore,
a receive semaphore, a source, a destination slot that only this message ever writes, and contents known from the
first run. Before anything is sent the four devices meet at the barrier semaphore, and each hands every other the
slots that one will write. This file states that protocol as a schedule of rounds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueLayout

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ 𝕄) := by unfold ER; infer_instance

variable (m : (ℓ : Loc nD τ sig) → Buf (Elt F) ℓ) (ρ : Dev nD → PrngReg)

/-! ## The four devices -/

set_option backward.proofsInPublic true in
/-- The device that direction `d` names, seen from `c`: 0 right, 1 left, 2 across. -/
def peer (d : Fin 3) (c : Dev nD) : Dev nD :=
  ⟨(c.val + (match d with | 0 => 1 | 1 => 3 | 2 => 2)) % 4, Nat.mod_lt _ (by decide)⟩
/-- The opposite direction. -/
def opp : Fin 3 → Fin 3 | 0 => 1 | 1 => 0 | 2 => 2
theorem peer_opp (d : Fin 3) (c : Dev nD) : peer (opp d) (peer d c) = c := by revert d c; decide
theorem opp_peer (d : Fin 3) (c : Dev nD) : peer d (peer (opp d) c) = c := by revert d c; decide
theorem opp_opp (d : Fin 3) : opp (opp d) = d := by revert d; decide
/-- Moving in direction `d` is a permutation of the devices. -/
def peerE (d : Fin 3) : Dev nD ≃ Dev nD := ⟨peer d, peer (opp d), peer_opp d, opp_peer d⟩

/-! ## Messages -/

/-- The six halves of a tile: the sender's own top and bottom to the right, its bottom and top to the left, and the
    two it passes on — the top half it got from the left, the bottom half it got from the right. -/
inductive Kd | lt | lb | rb | rt | f | g
  deriving DecidableEq
instance : Fintype Kd := ⟨{.lt, .lb, .rb, .rt, .f, .g}, fun k => by cases k <;> decide⟩
abbrev Msg := Fin 8 × Kd ⊕ Fin 3
def Kd.n : Kd → ℕ | .lt => 0 | .lb => 1 | .rb => 2 | .rt => 3 | .f => 4 | .g => 5
/-- Which half of a tile: 0 the top, 1 the bottom. -/
abbrev Kd.h : Kd → Fin 2 | .lt => 0 | .lb => 1 | .rb => 1 | .rt => 0 | .f => 0 | .g => 1
def ix : Msg → ℕ | .inl (t, k) => 8 * k.n + t.val | .inr j => 48 + j.val
theorem ix_lt (i : Msg) : ix i < 51 := by revert i; decide
abbrev dir : Msg → Fin 3
  | .inl (_, .lt) => 0 | .inl (_, .lb) => 0 | .inl (_, .rb) => 1 | .inl (_, .rt) => 1 | .inl (_, .f) => 0 | .inl (_, .g) => 1
  | .inr j => j
abbrev tgt (i : Msg) (c : Dev nD) : Dev nD := peer (dir i) c
abbrev snd (i : Msg) (c : Dev nD) : Dev nD := peer (opp (dir i)) c
theorem tgt_snd (i : Msg) (c : Dev nD) : tgt i (snd i c) = c := opp_peer _ _
theorem snd_tgt (i : Msg) (c : Dev nD) : snd i (tgt i c) = c := peer_opp _ _

/-! ## Semaphores and cells -/

abbrev barS : Sem sig := (SemArray.scalar (sig.barrier 0 rfl) : Sems sig S_).sem
def sS (i : Msg) : DmaSem sig := ⟨4 + ix i, by have := ix_lt i; show _ < 108; omega⟩
def sR (i : Msg) : DmaSem sig := ⟨55 + ix i, by have := ix_lt i; show _ < 108; omega⟩

set_option maxRecDepth 4000 in
theorem sem_send {off : Fin 1 → ℕ} {h} (i : Msg) (ho : off = ![ix i]) :
    (((cc0_scratch7 : DmaSems sig S51).slice (Rect.unit (s := S51) off S1.size h)).squeeze S_ squeezes_S1_S_).sem = sS i := by
  subst ho; revert i; decide
set_option maxRecDepth 4000 in
theorem sem_recv {off : Fin 1 → ℕ} {h} (i : Msg) (ho : off = ![ix i]) :
    (((cc0_scratch8 : DmaSems sig S51).slice (Rect.unit (s := S51) off S1.size h)).squeeze S_ squeezes_S1_S_).sem = sR i := by
  subst ho; revert i; decide

abbrev barC (c : Dev nD) : GSem nD τ sig := ((c : Thread nD τ), .reg barS)
abbrev sendC (c : Dev nD) (i : Msg) : GSem nD τ sig := ((c : Thread nD τ), .dma (sS i))
abbrev recvC (c : Dev nD) (i : Msg) : GSem nD τ sig := ((c : Thread nD τ), .dma (sR i))

def kdOf : ℕ → Kd | 0 => .lt | 1 => .lb | 2 => .rb | 3 => .rt | 4 => .f | _ => .g
def msgOf (x : ℕ) : Msg :=
  if x < 48 then .inl (⟨x % 8, Nat.mod_lt _ (by decide)⟩, kdOf (x / 8)) else .inr ⟨(x - 48) % 3, Nat.mod_lt _ (by decide)⟩
/-- The message a DMA semaphore belongs to: `false` its send semaphore, `true` its receive semaphore. -/
def dec (n : ℕ) : Option (Bool × Msg) :=
  if n < 4 then none else if n < 55 then some (false, msgOf (n - 4)) else if n < 106 then some (true, msgOf (n - 55)) else none
set_option maxRecDepth 4000 in
theorem dec_sS (i : Msg) : dec (sS i).val = some (false, i) := by revert i; decide
set_option maxRecDepth 4000 in
theorem dec_sR (i : Msg) : dec (sR i).val = some (true, i) := by revert i; decide

/-! ## Memrefs -/

abbrev wlM : Memref sig .tc .vmem S8x1024x1024 .fp8e4m3 := Memref.whole cc0_scratch1
abbrev wrM : Memref sig .tc .vmem S8x1024x1024 .fp8e4m3 := Memref.whole cc0_scratch2
abbrev wdM : Memref sig .tc .vmem S8x1024x1024 .fp8e4m3 := Memref.whole cc0_scratch3
abbrev wfM : Memref sig .tc .vmem S1024x8192 .fp8e4m3 := Memref.whole cc0_scratch4
abbrev xfM : Memref sig .tc .vmem S4096x1024 .fp8e4m3 := Memref.whole cc0_scratch5
abbrev xgM : Memref sig .tc .vmem S4x1024x1024 .fp8e4m3 := Memref.whole cc0_scratch0
abbrev stM : Memref sig .tc .vmem S2x1024x1024 .f32 := Memref.whole cc0_scratch6

theorem inb_half (t : Fin 8) (h : Fin 2) : ∀ a, (![t.val, 512 * h.val, 0] : Fin 3 → ℕ) a + S1x512x1024.size a ≤ S8x1024x1024.size a := by revert t h; decide
theorem inb_wfh (t : Fin 8) (h : Fin 2) : ∀ a, (![512 * h.val, 1024 * t.val] : Fin 2 → ℕ) a + S512x1024.size a ≤ S1024x8192.size a := by revert t h; decide
theorem inb_xg (d : Dev nD) : ∀ a, (![d.val, 0, 0] : Fin 3 → ℕ) a + S1x1024x1024.size a ≤ S4x1024x1024.size a := by revert d; decide
theorem inb_xf (d : Dev nD) : ∀ a, (![1024 * d.val, 0] : Fin 2 → ℕ) a + S1024x1024.size a ≤ S4096x1024.size a := by revert d; decide

abbrev rHalf (t : Fin 8) (h : Fin 2) : Rect S8x1024x1024 := Rect.unit (s := S8x1024x1024) ![t.val, 512 * h.val, 0] S1x512x1024.size (inb_half t h)
abbrev rWfh (t : Fin 8) (h : Fin 2) : Rect S1024x8192 := Rect.unit (s := S1024x8192) ![512 * h.val, 1024 * t.val] S512x1024.size (inb_wfh t h)
abbrev rXg (d : Dev nD) : Rect S4x1024x1024 := Rect.unit (s := S4x1024x1024) ![d.val, 0, 0] S1x1024x1024.size (inb_xg d)
abbrev rXf (d : Dev nD) : Rect S4096x1024 := Rect.unit (s := S4096x1024) ![1024 * d.val, 0] S1024x1024.size (inb_xf d)

abbrev half (M : Memref sig .tc .vmem S8x1024x1024 .fp8e4m3) (t : Fin 8) (h : Fin 2) : Memref sig .tc .vmem S512x1024 .fp8e4m3 :=
  (M.slice (rHalf t h) (fun _ => rfl)).squeeze S512x1024 squeezes_S1x512x1024_S512x1024
abbrev wfHalf (t : Fin 8) (h : Fin 2) : Memref sig .tc .vmem S512x1024 .fp8e4m3 := wfM.slice (rWfh t h) (fun _ => rfl)
abbrev xgSlot (d : Dev nD) : Memref sig .tc .vmem S1024x1024 .fp8e4m3 :=
  (xgM.slice (rXg d) (fun _ => rfl)).squeeze S1024x1024 squeezes_S1x1024x1024_S1024x1024
abbrev xfRows (d : Dev nD) : Memref sig .tc .vmem S1024x1024 .fp8e4m3 := xfM.slice (rXf d) (fun _ => rfl)

/-- A message's shape, its source on the sender `c`, and its destination slot on the target (which slot may depend on
    the sender). -/
abbrev msh : Msg → Shape | .inl _ => S512x1024 | .inr _ => S1024x1024
abbrev srcM (c : Dev nD) : (i : Msg) → Memref sig .tc .vmem (msh i) .fp8e4m3
  | .inl (t, .lt) => wfHalf t 0 | .inl (t, .lb) => wfHalf t 1 | .inl (t, .rb) => wfHalf t 1 | .inl (t, .rt) => wfHalf t 0
  | .inl (t, .f) => half wlM t 0 | .inl (t, .g) => half wrM t 1
  | .inr j => xfRows (peer j c)
abbrev dstM (c : Dev nD) : (i : Msg) → Memref sig .tc .vmem (msh i) .fp8e4m3
  | .inl (t, .lt) => half wlM t 0 | .inl (t, .lb) => half wlM t 1 | .inl (t, .rb) => half wrM t 1 | .inl (t, .rt) => half wrM t 0
  | .inl (t, .f) => half wdM t 0 | .inl (t, .g) => half wdM t 1
  | .inr _ => xgSlot c

abbrev NH : ℕ := (half wlM 0 0).view.dmaCredit
abbrev NX : ℕ := (xgSlot 0).view.dmaCredit
theorem NH_pos : 0 < NH := View.dmaCredit_pos _ (by decide)
theorem NX_pos : 0 < NX := View.dmaCredit_pos _ (by decide)
abbrev amt : Msg → ℕ | .inl _ => NH | .inr _ => NX
theorem amt_pos (i : Msg) : 0 < amt i := by rcases i with _ | _; exacts [NH_pos, NX_pos]
theorem credit_dst (c : Dev nD) (i : Msg) : (dstM c i).view.dmaCredit = amt i := by
  rcases i with ⟨t, k⟩ | j
  · cases k <;> rfl
  · rfl
theorem credit_src (c : Dev nD) (i : Msg) : (srcM c i).view.dmaCredit = amt i := by
  rcases i with ⟨t, k⟩ | j
  · cases k <;> rfl
  · rfl

/-! ## Contents -/

/-- Device `c`'s weights and rows of `x`, as the kernel rounds them. -/
def WF (c : Dev nD) : Buf (Elt F) ((c : Thread nD τ).loc cc0_scratch4) :=
  (truncf .fp8e4m3 (m ((c : Thread nD τ).loc main_arg1) : FVec F S1024x8192 .f32) bitsLt_fp8e4m3_f32 : FVec F S1024x8192 .fp8e4m3)
def XF (c : Dev nD) : Buf (Elt F) ((c : Thread nD τ).loc cc0_scratch5) :=
  (truncf .fp8e4m3 (m ((c : Thread nD τ).loc main_arg0) : FVec F S4096x1024 .f32) bitsLt_fp8e4m3_f32 : FVec F S4096x1024 .fp8e4m3)

theorem tileCol_lt (j : S8x1024x1024.Idx) : 1024 * (j 0).val + (j 2).val < 8192 := by
  have h0 : (j 0).val < 8 := (j 0).isLt
  have h2 : (j 2).val < 1024 := (j 2).isLt
  omega
/-- The weight element a tile buffer's element comes from. -/
def tileIx (j : S8x1024x1024.Idx) : S1024x8192.Idx := ix2 (⟨(j 1).val, (j 1).isLt⟩ : Fin 1024) (⟨1024 * (j 0).val + (j 2).val, tileCol_lt j⟩ : Fin 8192)
theorem xRow_lt (d : Dev nD) (j : S4x1024x1024.Idx) : 1024 * d.val + (j 1).val < 4096 := by
  have h0 : d.val < 4 := d.isLt
  have h1 : (j 1).val < 1024 := (j 1).isLt
  omega
def xIx (d : Dev nD) (j : S4x1024x1024.Idx) : S4096x1024.Idx := ix2 (⟨1024 * d.val + (j 1).val, xRow_lt d j⟩ : Fin 4096) (⟨(j 2).val, (j 2).isLt⟩ : Fin 1024)

/-- What a tile buffer on `c` holds once all of the tiles of device `e` have landed in it. -/
def WT (e : Dev nD) : S8x1024x1024.Idx → Elt F .fp8e4m3 := fun j => (WF m e : S1024x8192.Idx → Elt F .fp8e4m3) (tileIx j)
def XG (c : Dev nD) : Buf (Elt F) ((c : Thread nD τ).loc cc0_scratch0) :=
  fun (j : S4x1024x1024.Idx) => (XF m (⟨(j 0).val, (j 0).isLt⟩ : Dev nD) : S4096x1024.Idx → Elt F .fp8e4m3) (xIx c j)

/-- The contents of a message's source on `c`, and of its slot on the receiver `c` once it has landed. -/
def srcC (c : Dev nD) : (i : Msg) → Buf (Elt F) ((srcM c i).view.loc (c : Thread nD τ))
  | .inl (_, .lt) => WF m c | .inl (_, .lb) => WF m c | .inl (_, .rb) => WF m c | .inl (_, .rt) => WF m c
  | .inl (_, .f) => WT m (peer 1 c) | .inl (_, .g) => WT m (peer 0 c)
  | .inr _ => XF m c
def dstC (e c : Dev nD) : (i : Msg) → Buf (Elt F) ((dstM e i).view.loc (c : Thread nD τ))
  | .inl (_, .lt) => WT m (peer 1 c) | .inl (_, .lb) => WT m (peer 1 c) | .inl (_, .rb) => WT m (peer 0 c) | .inl (_, .rt) => WT m (peer 0 c)
  | .inl (_, .f) => WT m (peer 2 c) | .inl (_, .g) => WT m (peer 2 c)
  | .inr _ => XG m c

/-- The share of its source a message borrows. -/
def shr : Msg → PosShare TreeShare
  | .inl (_, .lt) => fullShare.right.left | .inl (_, .lb) => fullShare.right.left
  | .inl (_, .rb) => fullShare.right.right | .inl (_, .rt) => fullShare.right.right
  | .inl (_, .f) => fullShare.right | .inl (_, .g) => fullShare.right
  | .inr _ => fullShare

def srcP (c : Dev nD) (i : Msg) : sProp 𝕄 := (srcM c i).view.loc (c : Thread nD τ) ↦[(srcM c i).view.set]{shr i} srcC m c i
/-- The slot of message `i` from device `e`, on the device it goes to, with the contents `f`. -/
def slotP (e : Dev nD) (i : Msg) (f : Buf (Elt F) ((dstM e i).view.loc (tgt i e : Thread nD τ))) : sProp 𝕄 :=
  (dstM e i).view.loc (tgt i e : Thread nD τ) ↦[(dstM e i).view.set]{fullShare} f
def piece (e : Dev nD) (i : Msg) : sProp 𝕄 := iprop(∃ f, slotP (F := F) e i f)
def dstP (c : Dev nD) (i : Msg) : sProp 𝕄 := (dstM (snd i c) i).view.loc (c : Thread nD τ) ↦[(dstM (snd i c) i).view.set]{fullShare} dstC m (snd i c) c i

instance srcP_storable (c : Dev nD) (i : Msg) : BI.Storable (upEmb : UEmb _ 𝕄) (srcP m c i) := by unfold srcP; infer_instance
instance piece_storable (c : Dev nD) (i : Msg) : BI.Storable (upEmb : UEmb _ 𝕄) (piece (F := F) c i) := by unfold piece slotP; infer_instance
instance dstP_storable (c : Dev nD) (i : Msg) : BI.Storable (upEmb : UEmb _ 𝕄) (dstP m c i) := by unfold dstP; infer_instance

/-! ## The schedule -/

/-- What duty `d` of device `e`'s barrier cell hands `e`: the slots, on its peer in direction `d`, of its messages there. -/
def barPay (e : Dev nD) (d : Fin 3) : sProp 𝕄 := bigSep (Finset.univ.filter fun i : Msg => dir i = d) fun i => piece (F := F) e i

/-- One round: a barrier cell has three duties of one unit, a message's send and receive cells one duty of its credit. -/
def sched : Rounds.Schedule (GSem nD τ sig) (Fin 3) 𝕄 where
  duties g r := if r = 0 ∧ g.1.2 = .tc then (match g.2 with
    | .reg _ => Finset.univ
    | .dma n => match dec n.val with | none => ∅ | some _ => {0}) else ∅
  unitless _ := False
  amount g _ _ := match g.2 with
    | .reg _ => 1
    | .dma n => match dec n.val with | none => 1 | some x => amt x.2
  payload g _ d := match g.2 with
    | .reg _ => barPay g.1.1 d
    | .dma n => match dec n.val with
      | none => iprop(emp)
      | some (false, i) => srcP m g.1.1 i
      | some (true, i) => dstP m g.1.1 i
  amount_pos g _ _ _ := by
    rcases g with ⟨_, _ | n⟩
    · exact Nat.one_pos
    · dsimp only; split
      · exact Nat.one_pos
      · exact amt_pos _

instance sched_payload_storable (g : GSem nD τ sig) (r : ℕ) (d : Fin 3) :
    BI.Storable (upEmb : UEmb _ 𝕄) ((sched (F := F) m).payload g r d) := by
  rcases g with ⟨t, _ | n⟩
  · show BI.Storable upEmb (barPay t.1 d); unfold barPay; infer_instance
  · dsimp only [sched]
    split <;> infer_instance

section Sched
variable (c : Dev nD) (i : Msg)

theorem duties_bar : (sched (F := F) m).duties (barC c) 0 = Finset.univ := by dsimp only [sched]; exact if_pos ⟨rfl, rfl⟩
theorem duties_send : (sched (F := F) m).duties (sendC c i) 0 = {0} := by
  dsimp only [sched]; rw [if_pos ⟨rfl, rfl⟩, dec_sS]
theorem duties_recv : (sched (F := F) m).duties (recvC c i) 0 = {0} := by
  dsimp only [sched]; rw [if_pos ⟨rfl, rfl⟩, dec_sR]
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barC c) 0 d = 1 := rfl
theorem amount_send (d : Fin 3) : (sched (F := F) m).amount (sendC c i) 0 d = amt i := by dsimp only [sched]; rw [dec_sS]
theorem amount_recv (d : Fin 3) : (sched (F := F) m).amount (recvC c i) 0 d = amt i := by dsimp only [sched]; rw [dec_sR]

theorem expect_bar : (sched (F := F) m).expect (barC c) 0 = 3 := by
  unfold Schedule.expect Schedule.amountOf
  rw [duties_bar, Finset.sum_congr rfl fun d _ => amount_bar m c d]; rfl
theorem expect_send : (sched (F := F) m).expect (sendC c i) 0 = amt i := by
  unfold Schedule.expect Schedule.amountOf; rw [duties_send, Finset.sum_singleton, amount_send]
theorem expect_recv : (sched (F := F) m).expect (recvC c i) 0 = amt i := by
  unfold Schedule.expect Schedule.amountOf; rw [duties_recv, Finset.sum_singleton, amount_recv]

theorem payload_bar (d : Fin 3) : (sched (F := F) m).payload (barC c) 0 d = barPay c d := rfl
theorem payload_send (d : Fin 3) : (sched (F := F) m).payload (sendC c i) 0 d = srcP m c i := by dsimp only [sched]; rw [dec_sS]
theorem payload_recv (d : Fin 3) : (sched (F := F) m).payload (recvC c i) 0 d = dstP m c i := by dsimp only [sched]; rw [dec_sR]

theorem rest_bar : bigSep ((sched (F := F) m).duties (barC c) 0 \ ∅) (fun d => (sched (F := F) m).payload (barC c) 0 d)
    = bigSep Finset.univ fun d => barPay c d := by
  rw [Finset.sdiff_empty, duties_bar]; rfl
theorem rest_send : bigSep ((sched (F := F) m).duties (sendC c i) 0 \ ∅) (fun d => (sched (F := F) m).payload (sendC c i) 0 d) = srcP m c i := by
  rw [Finset.sdiff_empty, duties_send, bigSep_singleton, payload_send]
theorem rest_recv : bigSep ((sched (F := F) m).duties (recvC c i) 0 \ ∅) (fun d => (sched (F := F) m).payload (recvC c i) 0 d) = dstP m c i := by
  rw [Finset.sdiff_empty, duties_recv, bigSep_singleton, payload_recv]

end Sched

/-- The three duties of a barrier cell together hand over every slot. -/
theorem bar_pieces (c : Dev nD) : (bigSep Finset.univ fun d => barPay (F := F) c d) = bigSep Finset.univ fun i : Msg => piece (F := F) c i := by
  unfold barPay
  rw [← bigSep_biUnion_eq]
  · congr 1
    ext i; simp
  · intro d _ d' _ h
    exact Finset.disjoint_filter.mpr fun i _ h1 h2 => h (h1.symm.trans h2)

/-! ## What a device owes; the levels -/

def Ow (S : Finset Msg) (c : Dev nD) : CellTallies nD τ sig Unit := ∑ i ∈ S, tallyAt (recvC (tgt i c) i) () (amt i)
def OB0 (c : Dev nD) : CellTallies nD τ sig Unit := Ow Finset.univ c
def OB1 (c : Dev nD) : CellTallies nD τ sig Unit := OB0 c + tallyAt (barC (peer 2 c)) () 1
def OB2 (c : Dev nD) : CellTallies nD τ sig Unit := OB1 c + tallyAt (barC (peer 0 c)) () 1
def OB3 (c : Dev nD) : CellTallies nD τ sig Unit := OB2 c + tallyAt (barC (peer 1 c)) () 1

theorem Ow_erase {S : Finset Msg} {i : Msg} (h : i ∈ S) (c : Dev nD) :
    Ow S c = Ow (S.erase i) c + tallyAt (recvC (tgt i c) i) () (amt i) := by
  unfold Ow; rw [add_comm]; exact (Finset.add_sum_erase S _ h).symm
theorem Ow_empty (c : Dev nD) : Ow ∅ c = 0 := Finset.sum_empty

def L (g : GSem nD τ sig) : Finset Unit := if g.1.2 = .tc then {()} else ∅
/-- The level of a message's receive cell: the blocks of `x` first, then tile by tile, what is passed on last. -/
def lvl : Msg → ℕ
  | .inl (t, .f) => 5 + 4 * t.val | .inl (t, .g) => 5 + 4 * t.val
  | .inl (t, _) => 3 + 4 * t.val
  | .inr _ => 2
theorem lvl_pos (i : Msg) : 1 < lvl i := by revert i; decide
def lvS (sm : SemLoc sig) : ℕ := match sm with
  | .reg _ => 1
  | .dma n => match dec n.val with | some (true, i) => lvl i | _ => 0
def lv (g : GSem nD τ sig) (_ : Unit) : ℕ := lvS g.2
theorem lvS_send (i : Msg) : lvS (.dma (sS i)) = 0 := by dsimp only [lvS]; rw [dec_sS]
theorem lvS_recv (i : Msg) : lvS (.dma (sR i)) = lvl i := by dsimp only [lvS]; rw [dec_sR]

theorem L_of_ne (g : GSem nD τ sig) (h : g.1.2 ≠ .tc) : L g = ∅ := if_neg h
theorem L_tc (c : Dev nD) (sm : SemLoc sig) : L ((c : Thread nD τ), sm) = {()} := if_pos rfl

theorem Ow_apply (S : Finset Msg) (c : Dev nD) (g : GSem nD τ sig) (u : Unit) :
    Ow S c g u = ∑ i ∈ S, (tallyAt (recvC (tgt i c) i) () (amt i) : CellTallies nD τ sig Unit) g u := by
  unfold Ow; rw [Finset.sum_apply, Finsupp.finset_sum_apply]
theorem Ow_pos {S : Finset Msg} {c : Dev nD} {g : GSem nD τ sig} {u : Unit} (h : 0 < Ow S c g u) :
    ∃ i ∈ S, g = recvC (tgt i c) i := by
  rw [Ow_apply] at h
  obtain ⟨i, hi, hp⟩ := Finset.sum_pos_iff.mp h
  refine ⟨i, hi, ?_⟩
  rw [tallyAt_apply] at hp
  by_contra hn
  rw [if_neg (fun h' => hn h'.1)] at hp
  exact Nat.lt_irrefl 0 hp

/-- A device may wait on a cell below every message it still owes. -/
theorem mayWait_Ow (c : Dev nD) (sm : SemLoc sig) (S : Finset Msg) (h : ∀ i ∈ S, lvS sm < lvl i) :
    (levAts L lv : sProp 𝕄) ⊢ MayWait (c : Thread nD τ) sm () (Ow S c) := by
  refine MayOwe.of_cut (L := L) (lev := lv) (lvS sm) (fun p hp => by rw [Finset.mem_singleton.mp hp, L_tc]; exact Finset.mem_singleton_self _)
    (fun g u hg => by obtain ⟨i, _, rfl⟩ := Ow_pos hg; rw [L_tc]; exact Finset.mem_singleton_self _)
    (fun p hp => by rw [Finset.mem_singleton.mp hp]; exact le_rfl)
    (fun g u hg => by obtain ⟨i, hi, rfl⟩ := Ow_pos hg; show _ < lvS _; rw [lvS_recv]; exact h i hi)

theorem OB3_pos {c : Dev nD} {g : GSem nD τ sig} {u : Unit} (h : 0 < OB3 c g u) :
    (∃ i, g = recvC (tgt i c) i) ∨ (∃ d, g = barC (peer d c)) := by
  by_contra hn
  rw [not_or] at hn
  unfold OB3 OB2 OB1 OB0 at h
  rw [Pi.add_apply, Finsupp.add_apply, Pi.add_apply, Finsupp.add_apply, Pi.add_apply, Finsupp.add_apply, tallyAt_apply, tallyAt_apply, tallyAt_apply] at h
  rw [if_neg (fun h' => hn.2 ⟨_, h'.1⟩), if_neg (fun h' => hn.2 ⟨_, h'.1⟩), if_neg (fun h' => hn.2 ⟨_, h'.1⟩), add_zero, add_zero, add_zero] at h
  obtain ⟨i, _, hi⟩ := Ow_pos h
  exact hn.1 ⟨i, hi⟩

/-- At a cell of level 0 a device may wait whatever it owes at the launch. -/
theorem mayWait_OB3 (c : Dev nD) (sm : SemLoc sig) (h : lvS sm = 0) :
    (levAts L lv : sProp 𝕄) ⊢ MayWait (c : Thread nD τ) sm () (OB3 c) := by
  refine MayOwe.of_cut (L := L) (lev := lv) 0 (fun p hp => by rw [Finset.mem_singleton.mp hp, L_tc]; exact Finset.mem_singleton_self _)
    (fun g u hg => by rcases OB3_pos hg with ⟨i, rfl⟩ | ⟨d, rfl⟩ <;> (rw [L_tc]; exact Finset.mem_singleton_self _))
    (fun p hp => by rw [Finset.mem_singleton.mp hp]; exact le_of_eq h)
    (fun g u hg => by
      rcases OB3_pos hg with ⟨i, rfl⟩ | ⟨d, rfl⟩
      · show _ < lvS _; rw [lvS_recv]; exact lt_trans Nat.one_pos (lvl_pos i)
      · exact Nat.one_pos)

/-! ## The cells as a family -/

/-- A device's cells: its barrier, its 51 send cells, its 51 receive cells. -/
abbrev CI := Unit ⊕ (Msg ⊕ Msg)
instance : DecidableEq CI := instDecidableEqSum
instance : DecidableEq (Dev nD × CI) := instDecidableEqProd
def csem : CI → SemLoc sig | .inl _ => .reg barS | .inr (.inl i) => .dma (sS i) | .inr (.inr i) => .dma (sR i)
abbrev kcell (ck : Dev nD × CI) : GSem nD τ sig := ((ck.1 : Thread nD τ), csem ck.2)

def records (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)
instance records_persistent (K : Dev nD × CI → ℕ) : BI.Persistent (records m K) := by unfold records; infer_instance

/-- What every step may use as often as it likes: the cells' invariants under the names `K`, and the level facts. -/
def Ctx (K : Dev nD × CI → ℕ) : sProp 𝕄 := iprop(records m K ∗ levAts L lv)
instance Ctx_persistent (K : Dev nD × CI → ℕ) : BI.Persistent (Ctx m K) := by unfold Ctx; infer_instance

variable (K : Dev nD × CI → ℕ)
theorem inv_at (ck : Dev nD × CI) :
    (bigSep Finset.univ fun ck : Dev nD × CI => (cellInv ER (sched m) (K ck) (kcell ck) : sProp 𝕄)) ⊢ cellInv ER (sched m) (K ck) (kcell ck) :=
  bigSep_elim (Finset.mem_univ ck)
omit [FloatOps F] in
theorem reached_at (ck : Dev nD × CI) :
    (bigSep Finset.univ fun ck : Dev nD × CI => (reached ER (kcell ck) 0 : sProp 𝕄)) ⊢ reached ER (kcell ck) 0 :=
  bigSep_elim (Finset.mem_univ ck)
theorem ctx_inv (ck : Dev nD × CI) : Ctx m K ⊢ cellInv ER (sched m) (K ck) (kcell ck) := by
  unfold Ctx records
  iintro ⟨⟨HI, -⟩, -⟩
  iapply (inv_at m K ck); iexact HI
theorem ctx_reached (ck : Dev nD × CI) : Ctx m K ⊢ reached ER (kcell ck) 0 := by
  unfold Ctx records
  iintro ⟨⟨-, HR⟩, -⟩
  iapply (reached_at (F := F) ck); iexact HR
theorem ctx_lev : Ctx m K ⊢ levAts L lv := by
  unfold Ctx
  iintro ⟨-, H⟩
  iexact H

end Cert.KProof
-- ==== Proof.Steps.lean ====
/-
# `Steps`: the rules one effect of the body at a time

Each kind of effect the kernel uses, as one lemma at the protocol's cells: send a message, wait for a message to have
left, wait for one to have arrived, copy a block of an argument into the staging buffer and round it into the kernel's
own copy. The memrefs and semaphores are as printed, with the equation to the protocol's as a hypothesis.
-/
module

public import proofs.«01_k».proof.Proof.Proto

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

abbrev 𝒱₀ : Variants := Variants.none

/-! ## Geometry -/

omit [FloatOps F] in
/-- Writing what the view reads of `g` makes the buffer agree with `g` on the view. -/
theorem write_agree {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ _), ← h, View.read_apply, cast_cast, cast_eq]

theorem half_eq (M : Memref sig .tc .vmem S8x1024x1024 .fp8e4m3) {off : Fin 3 → ℕ} {h} (t : Fin 8) (b : Fin 2) (ho : off = ![t.val, 512 * b.val, 0]) :
    (M.slice (Rect.unit (s := S8x1024x1024) off S1x512x1024.size h) (fun _ => rfl)).squeeze S512x1024 squeezes_S1x512x1024_S512x1024 = half M t b := by
  subst ho; rfl
theorem wfHalf_eq {off : Fin 2 → ℕ} {h} (t : Fin 8) (b : Fin 2) (ho : off = ![512 * b.val, 1024 * t.val]) :
    wfM.slice (Rect.unit (s := S1024x8192) off S512x1024.size h) (fun _ => rfl) = wfHalf t b := by
  subst ho; rfl
theorem xgSlot_eq {off : Fin 3 → ℕ} {h} (d : Dev nD) (ho : off = ![d.val, 0, 0]) :
    (xgM.slice (Rect.unit (s := S4x1024x1024) off S1x1024x1024.size h) (fun _ => rfl)).squeeze S1024x1024 squeezes_S1x1024x1024_S1024x1024 = xgSlot d := by
  subst ho; rfl
theorem xfRows_eq {off : Fin 2 → ℕ} {h} (d : Dev nD) (ho : off = ![1024 * d.val, 0]) :
    xfM.slice (Rect.unit (s := S4096x1024) off S1024x1024.size h) (fun _ => rfl) = xfRows d := by
  subst ho; rfl

/-- An element of half a tile sits in the tile buffer where the same element of the same half of the weights comes from. -/
theorem tileIx_emb (t : Fin 8) (b : Fin 2) (h : S512x1024.numel = S1x512x1024.numel) (x : S512x1024.Idx) :
    tileIx ((rHalf t b).emb (Shape.reshapeEquiv h x)) = (rWfh t b).emb x := by
  obtain ⟨p, q, rfl⟩ : ∃ (p : Fin 512) (q : Fin 1024), x = ix2 p q := ⟨x 0, x 1, eq_ix2 x⟩
  have hx : Shape.reshapeEquiv h (ix2 p q) = ix3 (⟨0, Nat.one_pos⟩ : Fin 1) p q := reshapeEquiv_ix2_1ab h p q
  rw [hx]
  funext a
  fin_cases a <;> (apply Fin.ext; simp [tileIx, Rect.emb, Rect.unit]; try omega)
theorem xIx_emb (d e : Dev nD) (h : S1024x1024.numel = S1x1024x1024.numel) (x : S1024x1024.Idx) :
    xIx d ((rXg e).emb (Shape.reshapeEquiv h x)) = (rXf d).emb x := by
  obtain ⟨p, q, rfl⟩ : ∃ (p : Fin 1024) (q : Fin 1024), x = ix2 p q := ⟨x 0, x 1, eq_ix2 x⟩
  have hx : Shape.reshapeEquiv h (ix2 p q) = ix3 (⟨0, Nat.one_pos⟩ : Fin 1) p q := reshapeEquiv_ix2_1ab h p q
  rw [hx]
  funext a
  fin_cases a <;> (apply Fin.ext; simp [xIx, Rect.emb, Rect.unit]; try omega)
theorem xgDev_emb (e : Dev nD) (h : S1024x1024.numel = S1x1024x1024.numel) (x : S1024x1024.Idx)
    (hl : ((rXg e).emb (Shape.reshapeEquiv h x) 0).val < 4) :
    (⟨((rXg e).emb (Shape.reshapeEquiv h x) 0).val, hl⟩ : Dev nD) = e := by
  obtain ⟨p, q, rfl⟩ : ∃ (p : Fin 1024) (q : Fin 1024), x = ix2 p q := ⟨x 0, x 1, eq_ix2 x⟩
  have hx : Shape.reshapeEquiv h (ix2 p q) = ix3 (⟨0, Nat.one_pos⟩ : Fin 1) p q := reshapeEquiv_ix2_1ab h p q
  apply Fin.ext
  simp [hx, Rect.emb, Rect.unit]

/-- A message lands with the contents its receiver counts on. -/
theorem lands (c : Dev nD) (i : Msg) :
    (dstM c i).view.read (Elt F) (dstC m c (tgt i c) i) = (srcM c i).view.read (Elt F) (srcC m c i) := by
  funext x
  rcases i with ⟨t, k⟩ | j
  · cases k
    · show WF m (peer 1 (peer 0 c)) (tileIx ((rHalf t 0).emb (Shape.reshapeEquiv _ x))) = WF m c ((rWfh t 0).emb x)
      rw [tileIx_emb, show peer 1 (peer 0 c) = c from peer_opp 0 c]
    · show WF m (peer 1 (peer 0 c)) (tileIx ((rHalf t 1).emb (Shape.reshapeEquiv _ x))) = WF m c ((rWfh t 1).emb x)
      rw [tileIx_emb, show peer 1 (peer 0 c) = c from peer_opp 0 c]
    · show WF m (peer 0 (peer 1 c)) (tileIx ((rHalf t 1).emb (Shape.reshapeEquiv _ x))) = WF m c ((rWfh t 1).emb x)
      rw [tileIx_emb, show peer 0 (peer 1 c) = c from peer_opp 1 c]
    · show WF m (peer 0 (peer 1 c)) (tileIx ((rHalf t 0).emb (Shape.reshapeEquiv _ x))) = WF m c ((rWfh t 0).emb x)
      rw [tileIx_emb, show peer 0 (peer 1 c) = c from peer_opp 1 c]
    · show WT m (peer 2 (peer 0 c)) ((rHalf t 0).emb (Shape.reshapeEquiv _ x)) = WT m (peer 1 c) ((rHalf t 0).emb (Shape.reshapeEquiv _ x))
      rw [show peer 2 (peer 0 c) = peer 1 c from by revert c; decide]
    · show WT m (peer 2 (peer 1 c)) ((rHalf t 1).emb (Shape.reshapeEquiv _ x)) = WT m (peer 0 c) ((rHalf t 1).emb (Shape.reshapeEquiv _ x))
      rw [show peer 2 (peer 1 c) = peer 0 c from by revert c; decide]
  · show XF m (⟨((rXg c).emb (Shape.reshapeEquiv _ x) 0).val, _⟩ : Dev nD) (xIx (peer j c) ((rXg c).emb (Shape.reshapeEquiv _ x))) = XF m c ((rXf (peer j c)).emb x)
    rw [xIx_emb]
    exact congrArg (fun e => XF m e ((rXf (peer j c)).emb x)) (xgDev_emb c _ x _)

theorem lands_eq (c : Dev nD) (i : Msg) (f : Buf (Elt F) ((dstM c i).view.loc (tgt i c : Thread nD τ))) :
    ((dstM c i).view.loc (tgt i c : Thread nD τ) ↦[(dstM c i).view.set]{fullShare}
      ((dstM c i).view.write (Elt F) f ((srcM c i).view.read (Elt F) (srcC m c i)) Finset.univ) : sProp 𝕄)
      = dstP m (tgt i c) i := by
  have h : ∀ e, e = c → ((dstM c i).view.loc (tgt i c : Thread nD τ) ↦[(dstM c i).view.set]{fullShare}
      ((dstM c i).view.write (Elt F) f ((srcM c i).view.read (Elt F) (srcC m c i)) Finset.univ) : sProp 𝕄)
      = ((dstM e i).view.loc (tgt i c : Thread nD τ) ↦[(dstM e i).view.set]{fullShare} dstC m e (tgt i c) i) := by
    rintro e rfl
    exact pointsTo_congr (write_agree _ _ _ _ (lands m e i))
  unfold dstP
  exact h _ (snd_tgt i c)

/-! ## What a device owes, whatever it has waited for -/

def owesE (c : Dev nD) (O : CellTallies nD τ sig Unit) : sProp 𝕄 := iprop(∃ W : Waits sig Unit, owes (c : Thread nD τ) O W)

/-! ## Sending -/

theorem wp_send_msg (c n : Dev nD) (i : Msg) (hn : n = tgt i c) {src dst : Memref sig .tc .vmem (msh i) .fp8e4m3}
    (hs : src = srcM c i) (hd : dst = dstM c i) {ss rs : DmaSem sig} (hss : ss = sS i) (hrs : rs = sR i)
    {hsc : (show Memref sig (Dev.tc n : Thread nD τ).2.kind .vmem (msh i) .fp8e4m3 from dst).view.ref.isScScratch = false}
    {hsrc : src.view.WordExact} {hdst : dst.view.WordExact}
    {hsem : DmaTarget.Typed .vmem (.dma rs) (.remote (Dev.tc n : Thread nD τ) dst (.dma ss) hsc)}
    {α : Type} {Q : α → sProp 𝕄} {k : PUnit → Prog (TpuEff nD τ sig (Elt F) Λ₀ .tc) α}
    {S : Finset Msg} (hi : i ∈ S) :
    iprop(Ctx m K ∗ srcP m c i ∗ piece (F := F) c i ∗ owesE (F := F) c (Ow S c)
        ∗ dutyTok (ER (F := F)) (sendC c i) 0 0 ∗ dutyTok (ER (F := F)) (recvC (tgt i c) i) 0 0)
      ⊢ iprop(((cred (tallyAt (sendC c i) () (amt i)) ∗ owesE (F := F) c (Ow (S.erase i) c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma ss) hsc) (.dma rs) hsrc hdst hsem) k) Q) := by
  subst hn hs hd hss hrs
  unfold piece slotP owesE
  iintro ⟨#HC, Hs, ⟨%fd, Hd⟩, ⟨%W, HO⟩, HtS, HtR⟩ Hk
  unfold srcP
  iapply (Rounds.wp_send_pointsTo 𝒱₀ ER (sched m) (c : Thread nD τ) none (κ₁ := K (c, .inr (.inl i))) (κ₂ := K (tgt i c, .inr (.inr i)))
    (r₁ := 0) (r₂ := 0) (d₁ := 0) (d₂ := 0) (fd := fd)
    (by rw [duties_send]; exact Finset.mem_singleton_self _) (by rw [duties_recv]; exact Finset.mem_singleton_self _)
    () () (amt i) (show (dstM c i).view.amount (.dma (sR i)) = amt i from credit_dst c i) (amount_send m c i 0) (amount_recv m (tgt i c) i 0) (Ow (S.erase i) c) (Ow_erase hi c) (W := W)
    (by rw [payload_send]; exact BI.Entails.refl _)
    (by rw [payload_recv]; exact Entails.of_eq (lands_eq m c i fd))) $$ [Hs Hd HO HtS HtR]
  · isplitr; · iapply (ctx_inv m K (c, .inr (.inl i))); iexact HC
    isplitr; · iapply (ctx_inv m K (tgt i c, .inr (.inr i))); iexact HC
    isplitl [Hs]; · iexact Hs
    isplitl [Hd]; · iexact Hd
    isplitl [HO]; · iexact HO
    isplitl [HtS]; · iexact HtS
    isplitr; · iapply (ctx_reached m K (c, .inr (.inl i))); iexact HC
    isplitl [HtR]; · iexact HtR
    iapply (ctx_reached m K (tgt i c, .inr (.inr i))); iexact HC
  iintro ⟨Hc, HO⟩
  iapply Hk
  isplitl [Hc]; · iexact Hc
  iexists W; iexact HO

/-! ## Waiting -/

theorem wp_wait_sent (c : Dev nD) (i : Msg) {sm : DmaSem sig} (hsm : sm = sS i) {s s' : Shape} {e e' : EltTy}
    {srcw : Memref sig .tc .vmem s' e'} {dstw : Memref sig .tc .vmem s e} (hN : dstw.view.dmaCredit = amt i)
    {hsrc : srcw.view.WordExact} {hdst : dstw.view.WordExact}
    {α : Type} {Q : α → sProp 𝕄} {k : PUnit → Prog (TpuEff nD τ sig (Elt F) Λ₀ .tc) α} {S : Finset Msg} :
    iprop(Ctx m K ∗ cred (tallyAt (sendC c i) () (amt i)) ∗ owesE (F := F) c (Ow S c) ∗ atPos (ER (F := F)) (sendC c i) 0 ∅ 0)
      ⊢ iprop(((srcP m c i ∗ semVal (sendC c i) 0 ∗ owesE (F := F) c (Ow S c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) := by
  subst hsm
  unfold owesE
  iintro ⟨#HC, Hc, ⟨%W, HO⟩, Hat⟩ Hk
  iapply (Rounds.wp_wait_rest_token 𝒱₀ ER (sched m) (c : Thread nD τ) none (κ := K (c, .inr (.inl i)))
      (wpE_waitDma2_eq 𝒱₀ (c : Thread nD τ) none Set.univ) (Set.mem_univ _) () (O := Ow S c) (W := W) (R := 0) (m := 0) (T := ∅)
      (by rw [Nat.zero_add, expect_send, hN])) $$ [Hc HO Hat]
  · isplitr; · iapply (ctx_inv m K (c, .inr (.inl i))); iexact HC
    isplitl [Hc]; · rw [hN]; iexact Hc
    isplitl [HO]; · iexact HO
    isplitr; · iapply (mayWait_Ow c (.dma (sS i)) S (fun j _ => by rw [lvS_send]; exact lt_trans Nat.one_pos (lvl_pos j))); iapply (ctx_lev m K); iexact HC
    iexact Hat
  iintro ⟨HO, Hat, -, Hpay⟩
  ihave Hp := (Entails.of_eq (rest_send m c i)) $$ Hpay
  imod (Rounds.cell_close ER (sched m) (Set.mem_univ (K (c, .inr (.inl i)))) (fun h => h) (R := 0 + 1) (duties_later m (sendC c i))) $$ [Hat] with Hz
  · isplitr; · iapply (ctx_inv m K (c, .inr (.inl i))); iexact HC
    iexact Hat
  iapply Hk
  isplitl [Hp]; · iexact Hp
  isplitl [Hz]; · iexact Hz
  iexists _; iexact HO

theorem wp_wait_recv (c : Dev nD) (i : Msg) {sm : DmaSem sig} (hsm : sm = sR i) {s s' : Shape} {e e' : EltTy}
    {srcw : Memref sig .tc .vmem s' e'} {dstw : Memref sig .tc .vmem s e} (hN : dstw.view.dmaCredit = amt i)
    {hsrc : srcw.view.WordExact} {hdst : dstw.view.WordExact}
    {α : Type} {Q : α → sProp 𝕄} {k : PUnit → Prog (TpuEff nD τ sig (Elt F) Λ₀ .tc) α} {S : Finset Msg} (hS : ∀ j ∈ S, lvl i < lvl j) :
    iprop(Ctx m K ∗ cred (tallyAt (recvC c i) () (amt i)) ∗ owesE (F := F) c (Ow S c) ∗ atPos (ER (F := F)) (recvC c i) 0 ∅ 0)
      ⊢ iprop(((dstP m c i ∗ semVal (recvC c i) 0 ∗ owesE (F := F) c (Ow S c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) := by
  subst hsm
  unfold owesE
  iintro ⟨#HC, Hc, ⟨%W, HO⟩, Hat⟩ Hk
  iapply (Rounds.wp_wait_rest_token 𝒱₀ ER (sched m) (c : Thread nD τ) none (κ := K (c, .inr (.inr i)))
      (wpE_waitDma2_eq 𝒱₀ (c : Thread nD τ) none Set.univ) (Set.mem_univ _) () (O := Ow S c) (W := W) (R := 0) (m := 0) (T := ∅)
      (by rw [Nat.zero_add, expect_recv, hN])) $$ [Hc HO Hat]
  · isplitr; · iapply (ctx_inv m K (c, .inr (.inr i))); iexact HC
    isplitl [Hc]; · rw [hN]; iexact Hc
    isplitl [HO]; · iexact HO
    isplitr; · iapply (mayWait_Ow c (.dma (sR i)) S (fun j hj => by rw [lvS_recv]; exact hS j hj)); iapply (ctx_lev m K); iexact HC
    iexact Hat
  iintro ⟨HO, Hat, -, Hpay⟩
  ihave Hp := (Entails.of_eq (rest_recv m c i)) $$ Hpay
  imod (Rounds.cell_close ER (sched m) (Set.mem_univ (K (c, .inr (.inr i)))) (fun h => h) (R := 0 + 1) (duties_later m (recvC c i))) $$ [Hat] with Hz
  · isplitr; · iapply (ctx_inv m K (c, .inr (.inr i))); iexact HC
    iexact Hat
  iapply Hk
  isplitl [Hp]; · iexact Hp
  isplitl [Hz]; · iexact Hz
  iexists _; iexact HO

end Cert.KProof
-- ==== Proof.Copies.lean ====
module

public import proofs.«01_k».proof.Proof.Steps
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The staging buffer -/

abbrev rStg (s : Fin 2) : Rect S2x1024x1024 := Rect.unit (s := S2x1024x1024) ![s.val, 0, 0] S1x1024x1024.size (by revert s; decide)
abbrev stSlot (s : Fin 2) : Memref sig .tc .vmem S1024x1024 .f32 :=
  (stM.slice (rStg s) (fun _ => rfl)).squeeze S1024x1024 squeezes_S1x1024x1024_S1024x1024
/-- The copy semaphore of staging slot `s`. -/
def cpS (s : Fin 2) : DmaSem sig := ⟨106 + s.val, by have := s.isLt; show _ < 108; omega⟩
abbrev cpC (c : Dev nD) (s : Fin 2) : GSem nD τ sig := ((c : Thread nD τ), .dma (cpS s))
theorem sem_copy {off : Fin 1 → ℕ} {h} (s : Fin 2) (ho : off = ![s.val]) :
    (((cc0_scratch9 : DmaSems sig S2).slice (Rect.unit (s := S2) off S1.size h)).squeeze S_ squeezes_S1_S_).sem = cpS s := by
  subst ho; revert s; decide
theorem lvS_copy (s : Fin 2) : lvS (.dma (cpS s)) = 0 := by revert s; decide

abbrev NS : ℕ := (stSlot 0).view.dmaCredit
theorem NS_pos : 0 < NS := View.dmaCredit_pos _ (by decide)

theorem amount_st (s : Fin 2) : (stSlot s).view.amount (.dma (cpS s)) = NS := rfl
theorem stSlot_eq {off : Fin 3 → ℕ} {h} (s : Fin 2) (ho : off = ![s.val, 0, 0]) :
    (stM.slice (Rect.unit (s := S2x1024x1024) off S1x1024x1024.size h) (fun _ => rfl)).squeeze S1024x1024 squeezes_S1x1024x1024_S1024x1024 = stSlot s := by
  subst ho; rfl

/-- The staging buffer, holding anything. -/
def stgP (c : Dev nD) : sProp 𝕄 := iprop(∃ f : Buf (Elt F) ((c : Thread nD τ).loc cc0_scratch6), ((c : Thread nD τ).loc cc0_scratch6) ↦{fullShare} f)
/-- The staging buffer just after the block `w` was copied into its slot `s`. -/
def stgAt (c : Dev nD) (s : Fin 2) (w : S1024x1024.Idx → Elt F .f32) : sProp 𝕄 :=
  iprop(∃ f : Buf (Elt F) ((c : Thread nD τ).loc cc0_scratch6), ((c : Thread nD τ).loc cc0_scratch6) ↦{fullShare} ((stSlot s).view.write (Elt F) f w Finset.univ))

/-- What the kernel rounds is the block that was copied in. -/
theorem stage_pay (s : Fin 2) {off : Fin 3 → ℕ} (ho : off = ![s.val, 0, 0]) {h} (f : (stSlot s).view.ty.Contents (Elt F)) (w : S1024x1024.Idx → Elt F .f32) :
    k0_pay3 (F := F) (stM.view.readAt (Elt F) (Rect.unit (s := S2x1024x1024) off S1x1024x1024.size h).toLoadRect ((stSlot s).view.write (Elt F) f w Finset.univ))
      = (truncf .fp8e4m3 (w : FVec F S1024x1024 .f32) bitsLt_fp8e4m3_f32 : FVec F S1024x1024 .fp8e4m3) := by
  subst ho
  unfold k0_pay3
  refine (shapeCast_self _ _).trans ?_
  congr 1
  funext x
  exact congrFun (View.read_write_univ (v := (stSlot s).view) (Val := Elt F) f w) x

/-- A copy in flight from the buffer of `src`, which is held whole beside it. -/
def copyFl (c : Dev nD) (s : Fin 2) (src : Memref sig .tc .hbm S1024x1024 .f32) (fs : Buf (Elt F) (src.view.loc (c : Thread nD τ))) : sProp 𝕄 :=
  iprop(∃ fd : Buf (Elt F) ((stSlot s).view.loc (c : Thread nD τ)),
    Transfers.Flight (countersEmb (U := UU)) (c : Thread nD τ) (.dma (cpS s)) () NS
      iprop(((stSlot s).view.loc (c : Thread nD τ) ↦[Finset.univ]{fullShare} ((stSlot s).view.write (Elt F) fd (ReadAs.same.apply (src.view.read (Elt F) fs)) Finset.univ))
        ∗ (src.view.loc (c : Thread nD τ) ↦[src.view.set]{fullShare} fs))
    ∗ (src.view.loc (c : Thread nD τ) ↦[Finset.univ \ src.view.set]{fullShare} fs))

theorem wp_copy_start (c : Dev nD) (s : Fin 2) {src : Memref sig .tc .hbm S1024x1024 .f32} {dst : Memref sig .tc .vmem S1024x1024 .f32}
    (hd : dst = stSlot s) {sm : DmaSem sig} (hsm : sm = cpS s) (fs : Buf (Elt F) (src.view.loc (c : Thread nD τ)))
    {hsrc : src.view.WordExact} {hdst : dst.view.WordExact} {hsem : DmaTarget.Typed (nD := nD) .hbm (.dma sm) (.here (p := (c : Thread nD τ).2) dst)}
    {α : Type} {Q : α → sProp 𝕄} {k : PUnit → Prog (TpuEff nD τ sig (Elt F) Λ₀ .tc) α} :
    iprop((src.view.loc (c : Thread nD τ) ↦{fullShare} fs) ∗ stgP (F := F) c ∗ semVal (cpC c s) 0)
      ⊢ iprop((copyFl c s src fs -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma sm) hsrc hdst hsem) k) Q) := by
  subst hd hsm
  unfold stgP copyFl
  iintro ⟨Hs, ⟨%fd, Hd⟩, Hz⟩ Hk
  ihave Hs' := (pointsTo_split_subset (ℓ := src.view.loc (c : Thread nD τ)) (q := fullShare) (f := fs) (Finset.subset_univ src.view.set)).1 $$ Hs
  icases Hs' with ⟨Hs, Hr⟩
  iapply (Transfers.wp_dmaLocal (countersEmb (U := UU)) 𝒱₀ (c : Thread nD τ) none (src := src) (dst := stSlot s) (via := ReadAs.same) (fs := fs) (fd := fd)
    (Sd := Finset.univ) () NS (amount_st s) NS_pos (Finset.subset_univ _)) $$ [Hs Hd Hz]
  · isplitl [Hs]; · iexact Hs
    isplitl [Hd]; · iexact Hd
    iexact Hz
  iintro HF
  iapply Hk
  iexists fd
  isplitl [HF]; · iexact HF
  iexact Hr

theorem wp_copy_wait (c : Dev nD) (s : Fin 2) (src : Memref sig .tc .hbm S1024x1024 .f32) (fs : Buf (Elt F) (src.view.loc (c : Thread nD τ)))
    {sm : DmaSem sig} (hsm : sm = cpS s) {s' : Shape} {e' : EltTy} {sp' : Space} {srcw : Memref sig .tc sp' s' e'} {dstw : Memref sig .tc .vmem S1024x1024 .f32} (hd : dstw = stSlot s)
    {hsrc : srcw.view.WordExact} {hdst : dstw.view.WordExact} {O : CellTallies nD τ sig Unit}
    (hO : (levAts L lv : sProp 𝕄) ⊢ MayWait (c : Thread nD τ) (.dma (cpS s)) () O)
    {α : Type} {Q : α → sProp 𝕄} {k : PUnit → Prog (TpuEff nD τ sig (Elt F) Λ₀ .tc) α} :
    iprop(Ctx m K ∗ copyFl c s src fs ∗ owesE (F := F) c O)
      ⊢ iprop(((stgAt c s (src.view.read (Elt F) fs) ∗ (src.view.loc (c : Thread nD τ) ↦{fullShare} fs) ∗ semVal (cpC c s) 0 ∗ owesE (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) := by
  subst hsm hd
  unfold copyFl stgAt owesE
  iintro ⟨#HC, ⟨%fd, HF, Hr⟩, ⟨%W, HO⟩⟩ Hk
  iapply (Transfers.wp_waitLocalO (countersEmb (U := UU)) 𝒱₀ (c : Thread nD τ) none () (N := NS) (show (stSlot s).view.dmaCredit = NS from rfl) (O := O) (W := W)) $$ [HF HO]
  · isplitl [HF]; · iexact HF
    isplitl [HO]; · iexact HO
    iapply hO; iapply (ctx_lev m K); iexact HC
  iintro ⟨⟨Hd, Hs⟩, Hz, HO⟩
  iapply Hk
  isplitl [Hd]; · iexists fd; iexact Hd
  isplitl [Hs Hr]
  · iapply (pointsTo_split_subset (ℓ := src.view.loc (c : Thread nD τ)) (q := fullShare) (f := fs) (Finset.subset_univ src.view.set)).2
    isplitl [Hs] <;> iassumption
  isplitl [Hz]; · iexact Hz
  iexists _; iexact HO

/-! ## Rounding a weight tile, or a block of `x` -/

theorem inb_tile (t : Fin 8) : ∀ a, (![0, 1024 * t.val] : Fin 2 → ℕ) a + S1024x1024.size a ≤ S1024x8192.size a := by revert t; decide
abbrev rTile (t : Fin 8) : Rect S1024x8192 := Rect.unit (s := S1024x8192) ![0, 1024 * t.val] S1024x1024.size (inb_tile t)
/-- Tile `t` of the rounded weights. -/
def wfT (c : Dev nD) (t : Fin 8) (q : PosShare TreeShare) (f : Buf (Elt F) ((c : Thread nD τ).loc cc0_scratch4)) : sProp 𝕄 :=
  ((c : Thread nD τ).loc cc0_scratch4) ↦[(rTile t).set]{q} f
/-- The rows of the rounded `x` meant for device `d`. -/
def xfR (c d : Dev nD) (f : Buf (Elt F) ((c : Thread nD τ).loc cc0_scratch5)) : sProp 𝕄 :=
  ((c : Thread nD τ).loc cc0_scratch5) ↦[(rXf d).set]{fullShare} f
def argX (c : Dev nD) : sProp 𝕄 := ((c : Thread nD τ).loc main_arg0) ↦{fullShare} m ((c : Thread nD τ).loc main_arg0)
def argW (c : Dev nD) : sProp 𝕄 := ((c : Thread nD τ).loc main_arg1) ↦{fullShare} m ((c : Thread nD τ).loc main_arg1)

/-- Storing the rounded block is holding the rounded weights on that tile. -/
theorem wf_store (c : Dev nD) (s : Fin 2) (t : Fin 8) {oL : Fin 3 → ℕ} (hL : oL = ![s.val, 0, 0]) {bA bL}
    (f : Buf (Elt F) ((c : Thread nD τ).loc cc0_scratch4)) (fd : Buf (Elt F) ((c : Thread nD τ).loc cc0_scratch6)) (i) (hi : i ∈ (rTile t).set) :
    (wfM.access (rTile t)).write (Elt F) f (k0_pay3 (F := F) (stM.view.readAt (Elt F) (Rect.unit (s := S2x1024x1024) oL S1x1024x1024.size bL).toLoadRect
      ((stSlot s).view.write (Elt F) fd
        (((Memref.whole main_arg1 : Memref sig .tc .hbm S1024x8192 .f32).slice (Rect.unit (s := S1024x8192) ![0, 1024 * t.val] S1024x1024.size bA) (fun _ => rfl)).view.read (Elt F) (m ((c : Thread nD τ).loc main_arg1)))
        Finset.univ))) Finset.univ i = WF m c i :=
  write_agree (wfM.access (rTile t)) f (WF m c) _ (stage_pay s hL fd _).symm i (by rw [View.set_slice_whole]; exact hi)

theorem xf_store (c : Dev nD) (s : Fin 2) (d : Dev nD) {oL : Fin 3 → ℕ} (hL : oL = ![s.val, 0, 0]) {bA bL}
    (f : Buf (Elt F) ((c : Thread nD τ).loc cc0_scratch5)) (fd : Buf (Elt F) ((c : Thread nD τ).loc cc0_scratch6)) (i) (hi : i ∈ (rXf d).set) :
    (xfM.access (rXf d)).write (Elt F) f (k0_pay3 (F := F) (stM.view.readAt (Elt F) (Rect.unit (s := S2x1024x1024) oL S1x1024x1024.size bL).toLoadRect
      ((stSlot s).view.write (Elt F) fd
        (((Memref.whole main_arg0 : Memref sig .tc .hbm S4096x1024 .f32).slice (Rect.unit (s := S4096x1024) ![1024 * d.val, 0] S1024x1024.size bA) (fun _ => rfl)).view.read (Elt F) (m ((c : Thread nD τ).loc main_arg0)))
        Finset.univ))) Finset.univ i = XF m c i :=
  write_agree (xfM.access (rXf d)) f (XF m c) _ (stage_pay s hL fd _).symm i (by rw [View.set_slice_whole]; exact hi)

theorem wp_cvt_w (c : Dev nD) (s : Fin 2) (t : Fin 8) {oA oT oT' : Fin 2 → ℕ} {oS oS' oL : Fin 3 → ℕ}
    (hA : oA = ![0, 1024 * t.val]) (hT : oT = ![0, 1024 * t.val]) (hT' : oT' = ![0, 1024 * t.val])
    (hS : oS = ![s.val, 0, 0]) (hS' : oS' = ![s.val, 0, 0]) (hL : oL = ![s.val, 0, 0])
    {bA bT bT' bS bS' bL} {sm sm' : DmaSem sig} (hsm : sm = cpS s) (hsm' : sm' = cpS s)
    {srcw : Memref sig .tc .hbm S1024x1024 .f32} {p1 p2 p3 p4 p5 p6 p7 p8 p9}
    {pay : Vec F S1x1024x1024 .f32 → FVec F S1024x1024 .fp8e4m3} (hpay : pay = k0_pay3) {O : CellTallies nD τ sig Unit}
    (hO : (levAts L lv : sProp 𝕄) ⊢ MayWait (c : Thread nD τ) (.dma (cpS s)) () O)
    {α : Type} {Q : α → sProp 𝕄} {k : PUnit → Prog (TpuEff nD τ sig (Elt F) Λ₀ .tc) α} :
    iprop(Ctx m K ∗ argW m c ∗ stgP (F := F) c ∗ semVal (cpC c s) 0 ∗ owesE (F := F) c O ∗ (∃ f, wfT c t fullShare f))
      ⊢ iprop(((argW m c ∗ stgP (F := F) c ∗ semVal (cpC c s) 0 ∗ owesE (F := F) c O ∗ wfT c t fullShare (WF m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole main_arg1 : Memref sig .tc .hbm S1024x8192 .f32).slice (Rect.unit (s := S1024x8192) oA S1024x1024.size bA) (fun _ => rfl))
                  (.here ((stM.slice (Rect.unit (s := S2x1024x1024) oS S1x1024x1024.size bS) (fun _ => rfl)).squeeze S1024x1024 squeezes_S1x1024x1024_S1024x1024)) (.dma sm) p1 p2 p3) fun _ =>
               .op (.waitDma2 sm' srcw ((stM.slice (Rect.unit (s := S2x1024x1024) oS' S1x1024x1024.size bS') (fun _ => rfl)).squeeze S1024x1024 squeezes_S1x1024x1024_S1024x1024) p4 p5) fun _ =>
               .op (.load stM (Rect.unit (s := S2x1024x1024) oL S1x1024x1024.size bL).toLoadRect p6) fun v =>
               .op (.load wfM (Rect.unit (s := S1024x8192) oT S1024x1024.size bT).toLoadRect p7) fun _ =>
               .op (.store wfM (Rect.unit (s := S1024x8192) oT' S1024x1024.size bT') (pay v) Finset.univ p8 p9) k) Q) := by
  subst hA hT hT' hpay
  iintro ⟨#HC, HA, Hst, Hz, HO, ⟨%f, Hw⟩⟩ Hk
  unfold argW wfT
  iapply (wp_copy_start c s (stSlot_eq s hS) hsm (m ((c : Thread nD τ).loc main_arg1))) $$ [HA Hst Hz]
  · isplitl [HA]; · iexact HA
    isplitl [Hst] <;> iassumption
  iintro HF
  iapply (wp_copy_wait m K c s _ _ hsm' (stSlot_eq s hS') hO) $$ [HF HO]
  · isplitr; · iexact HC
    isplitl [HF]; · iexact HF
    iexact HO
  iintro ⟨Hst, HA, Hz, HO⟩
  unfold stgAt
  icases Hst with ⟨%fd, Hst⟩
  iapply (wp_load 𝒱₀ (c : Thread nD τ) none Set.univ (m := stM) (Finset.subset_univ _)) $$ Hst; iintro Hst
  iapply (wp_load_rect 𝒱₀ (c : Thread nD τ) none Set.univ (m := wfM) (r := rTile t) (S := (rTile t).set) (by rw [View.set_slice_whole])) $$ Hw; iintro Hw
  iapply (wp_store 𝒱₀ (c : Thread nD τ) none Set.univ (m := wfM) (r := rTile t) (Mk := Finset.univ) (S := (rTile t).set)
    (by rw [View.setOn_univ, View.set_slice_whole])) $$ Hw; iintro Hw
  iapply Hk
  isplitl [HA]; · iexact HA
  isplitl [Hst]; · unfold stgP; iexists _; iexact Hst
  isplitl [Hz]; · iexact Hz
  isplitl [HO]; · iexact HO
  iapply (Entails.of_eq (pointsTo_congr (ℓ := (c : Thread nD τ).loc cc0_scratch4) (q := fullShare) (I := (rTile t).set) (wf_store m c s t hL f fd)))
  iexact Hw

theorem wp_cvt_x (c : Dev nD) (s : Fin 2) (d : Dev nD) {oA oT oT' : Fin 2 → ℕ} {oS oS' oL : Fin 3 → ℕ}
    (hA : oA = ![1024 * d.val, 0]) (hT : oT = ![1024 * d.val, 0]) (hT' : oT' = ![1024 * d.val, 0])
    (hS : oS = ![s.val, 0, 0]) (hS' : oS' = ![s.val, 0, 0]) (hL : oL = ![s.val, 0, 0])
    {bA bT bT' bS bS' bL} {sm sm' : DmaSem sig} (hsm : sm = cpS s) (hsm' : sm' = cpS s)
    {srcw : Memref sig .tc .hbm S1024x1024 .f32} {p1 p2 p3 p4 p5 p6 p7 p8 p9}
    {pay : Vec F S1x1024x1024 .f32 → FVec F S1024x1024 .fp8e4m3} (hpay : pay = k0_pay3) {O : CellTallies nD τ sig Unit}
    (hO : (levAts L lv : sProp 𝕄) ⊢ MayWait (c : Thread nD τ) (.dma (cpS s)) () O)
    {α : Type} {Q : α → sProp 𝕄} {k : PUnit → Prog (TpuEff nD τ sig (Elt F) Λ₀ .tc) α} :
    iprop(Ctx m K ∗ argX m c ∗ stgP (F := F) c ∗ semVal (cpC c s) 0 ∗ owesE (F := F) c O ∗ (∃ f, xfR c d f))
      ⊢ iprop(((argX m c ∗ stgP (F := F) c ∗ semVal (cpC c s) 0 ∗ owesE (F := F) c O ∗ xfR c d (XF m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole main_arg0 : Memref sig .tc .hbm S4096x1024 .f32).slice (Rect.unit (s := S4096x1024) oA S1024x1024.size bA) (fun _ => rfl))
                  (.here ((stM.slice (Rect.unit (s := S2x1024x1024) oS S1x1024x1024.size bS) (fun _ => rfl)).squeeze S1024x1024 squeezes_S1x1024x1024_S1024x1024)) (.dma sm) p1 p2 p3) fun _ =>
               .op (.waitDma2 sm' srcw ((stM.slice (Rect.unit (s := S2x1024x1024) oS' S1x1024x1024.size bS') (fun _ => rfl)).squeeze S1024x1024 squeezes_S1x1024x1024_S1024x1024) p4 p5) fun _ =>
               .op (.load stM (Rect.unit (s := S2x1024x1024) oL S1x1024x1024.size bL).toLoadRect p6) fun v =>
               .op (.load xfM (Rect.unit (s := S4096x1024) oT S1024x1024.size bT).toLoadRect p7) fun _ =>
               .op (.store xfM (Rect.unit (s := S4096x1024) oT' S1024x1024.size bT') (pay v) Finset.univ p8 p9) k) Q) := by
  subst hA hT hT' hpay
  iintro ⟨#HC, HA, Hst, Hz, HO, ⟨%f, Hw⟩⟩ Hk
  unfold argX xfR
  iapply (wp_copy_start c s (stSlot_eq s hS) hsm (m ((c : Thread nD τ).loc main_arg0))) $$ [HA Hst Hz]
  · isplitl [HA]; · iexact HA
    isplitl [Hst] <;> iassumption
  iintro HF
  iapply (wp_copy_wait m K c s _ _ hsm' (stSlot_eq s hS') hO) $$ [HF HO]
  · isplitr; · iexact HC
    isplitl [HF]; · iexact HF
    iexact HO
  iintro ⟨Hst, HA, Hz, HO⟩
  unfold stgAt
  icases Hst with ⟨%fd, Hst⟩
  iapply (wp_load 𝒱₀ (c : Thread nD τ) none Set.univ (m := stM) (Finset.subset_univ _)) $$ Hst; iintro Hst
  iapply (wp_load_rect 𝒱₀ (c : Thread nD τ) none Set.univ (m := xfM) (r := rXf d) (S := (rXf d).set) (by rw [View.set_slice_whole])) $$ Hw; iintro Hw
  iapply (wp_store 𝒱₀ (c : Thread nD τ) none Set.univ (m := xfM) (r := rXf d) (Mk := Finset.univ) (S := (rXf d).set)
    (by rw [View.setOn_univ, View.set_slice_whole])) $$ Hw; iintro Hw
  iapply Hk
  isplitl [HA]; · iexact HA
  isplitl [Hst]; · unfold stgP; iexists _; iexact Hst
  isplitl [Hz]; · iexact Hz
  isplitl [HO]; · iexact HO
  iapply (Entails.of_eq (pointsTo_congr (ℓ := (c : Thread nD τ).loc cc0_scratch5) (q := fullShare) (I := (rXf d).set) (xf_store m c s d hL f fd)))
  iexact Hw

end Cert.KProof
-- ==== Proof.States.lean ====
module

public import proofs.«01_k».proof.Proof.Copies
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## Tokens -/

/-- The receiving side of message `i` on device `c`, before it is waited for. -/
def rcvI (c : Dev nD) (i : Msg) : sProp 𝕄 := iprop(cred (tallyAt (recvC c i) () (amt i)) ∗ atPos (ER (F := F)) (recvC c i) 0 ∅ 0)
/-- What device `c` needs beside the slot to send message `i`. -/
def sndT (c : Dev nD) (i : Msg) : sProp 𝕄 :=
  iprop(dutyTok (ER (F := F)) (sendC c i) 0 0 ∗ dutyTok (ER (F := F)) (recvC (tgt i c) i) 0 0 ∗ atPos (ER (F := F)) (sendC c i) 0 ∅ 0)
/-- Message `i` of device `c`, not yet sent. -/
def sndI (c : Dev nD) (i : Msg) : sProp 𝕄 := iprop(piece (F := F) c i ∗ sndT (F := F) c i)
/-- Message `i` of device `c`, sent and not yet waited for. -/
def sntI (c : Dev nD) (i : Msg) : sProp 𝕄 := iprop(cred (tallyAt (sendC c i) () (amt i)) ∗ atPos (ER (F := F)) (sendC c i) 0 ∅ 0)
/-- A slot on device `c` that message `i` lands in, holding anything. -/
def slotO (c : Dev nD) (i : Msg) : sProp 𝕄 :=
  iprop(∃ f : Buf (Elt F) ((dstM (snd i c) i).view.loc (c : Thread nD τ)), (dstM (snd i c) i).view.loc (c : Thread nD τ) ↦[(dstM (snd i c) i).view.set]{fullShare} f)
def doneS (c : Dev nD) (i : Msg) : sProp 𝕄 := iprop(semVal (sendC c i) 0 ∗ semVal (recvC c i) 0)

omit [FloatOps F] in
theorem slotO_eq (c : Dev nD) (i : Msg) : slotO (F := F) c i = piece (snd i c) i := by
  have h : ∀ e, e = c → iprop(∃ f : Buf (Elt F) ((dstM (snd i c) i).view.loc (e : Thread nD τ)), (dstM (snd i c) i).view.loc (e : Thread nD τ) ↦[(dstM (snd i c) i).view.set]{fullShare} f)
      = slotO (F := F) c i := by rintro e rfl; rfl
  exact (h _ (tgt_snd i c)).symm

theorem dstP_slotO (c : Dev nD) (i : Msg) : dstP m c i ⊢ slotO (F := F) c i := by
  unfold dstP slotO; iintro H; iexists _; iexact H

theorem step_send (c n : Dev nD) (i : Msg) (hn : n = tgt i c) {src dst : Memref sig .tc .vmem (msh i) .fp8e4m3}
    (hs : src = srcM c i) (hd : dst = dstM c i) {ss rs : DmaSem sig} (hss : ss = sS i) (hrs : rs = sR i)
    {hsc : (show Memref sig (Dev.tc n : Thread nD τ).2.kind .vmem (msh i) .fp8e4m3 from dst).view.ref.isScScratch = false}
    {hsrc : src.view.WordExact} {hdst : dst.view.WordExact}
    {hsem : DmaTarget.Typed .vmem (.dma rs) (.remote (Dev.tc n : Thread nD τ) dst (.dma ss) hsc)}
    {α : Type} {Q : α → sProp 𝕄} {k : PUnit → Prog (TpuEff nD τ sig (Elt F) Λ₀ .tc) α}
    {S : Finset Msg} (hi : i ∈ S) :
    iprop(Ctx m K ∗ srcP m c i ∗ sndI (F := F) c i ∗ owesE (F := F) c (Ow S c))
      ⊢ iprop(((sntI (F := F) c i ∗ owesE (F := F) c (Ow (S.erase i) c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma ss) hsc) (.dma rs) hsrc hdst hsem) k) Q) := by
  unfold sndI sndT sntI
  iintro ⟨#HC, Hs, ⟨Hp, H1, H2, Hat⟩, HO⟩ Hk
  iapply (wp_send_msg m K c n i hn hs hd hss hrs hi) $$ [Hs Hp H1 H2 HO]
  · isplitr; · iexact HC
    isplitl [Hs]; · iexact Hs
    isplitl [Hp]; · iexact Hp
    isplitl [HO]; · iexact HO
    isplitl [H1] <;> iassumption
  iintro ⟨Hc, HO⟩
  iapply Hk
  isplitl [Hc Hat]
  · isplitl [Hc] <;> iassumption
  iexact HO

theorem step_sent (c : Dev nD) (i : Msg) {sm : DmaSem sig} (hsm : sm = sS i) {s s' : Shape} {e e' : EltTy}
    {srcw : Memref sig .tc .vmem s' e'} {dstw : Memref sig .tc .vmem s e} (hN : dstw.view.dmaCredit = amt i)
    {hsrc : srcw.view.WordExact} {hdst : dstw.view.WordExact}
    {α : Type} {Q : α → sProp 𝕄} {k : PUnit → Prog (TpuEff nD τ sig (Elt F) Λ₀ .tc) α} {S : Finset Msg} :
    iprop(Ctx m K ∗ sntI (F := F) c i ∗ owesE (F := F) c (Ow S c))
      ⊢ iprop(((srcP m c i ∗ semVal (sendC c i) 0 ∗ owesE (F := F) c (Ow S c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) := by
  unfold sntI
  iintro ⟨#HC, ⟨Hc, Hat⟩, HO⟩ Hk
  iapply (wp_wait_sent m K c i hsm hN) $$ [Hc Hat HO]
  · isplitr; · iexact HC
    isplitl [Hc]; · iexact Hc
    isplitl [HO] <;> iassumption
  iexact Hk

theorem step_recv (c : Dev nD) (i : Msg) {sm : DmaSem sig} (hsm : sm = sR i) {s s' : Shape} {e e' : EltTy}
    {srcw : Memref sig .tc .vmem s' e'} {dstw : Memref sig .tc .vmem s e} (hN : dstw.view.dmaCredit = amt i)
    {hsrc : srcw.view.WordExact} {hdst : dstw.view.WordExact}
    {α : Type} {Q : α → sProp 𝕄} {k : PUnit → Prog (TpuEff nD τ sig (Elt F) Λ₀ .tc) α} {S : Finset Msg} (hS : ∀ j ∈ S, lvl i < lvl j) :
    iprop(Ctx m K ∗ rcvI (F := F) c i ∗ owesE (F := F) c (Ow S c))
      ⊢ iprop(((dstP m c i ∗ semVal (recvC c i) 0 ∗ owesE (F := F) c (Ow S c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) := by
  unfold rcvI
  iintro ⟨#HC, ⟨Hc, Hat⟩, HO⟩ Hk
  iapply (wp_wait_recv m K c i hsm hN hS) $$ [Hc Hat HO]
  · isplitr; · iexact HC
    isplitl [Hc]; · iexact Hc
    isplitl [HO] <;> iassumption
  iexact Hk

/-! ## Loads and stores of whole memrefs, and loads of the landed blocks -/

omit [FloatOps F] in
theorem whole_readAt {sp : Space} {s : Shape} {e : EltTy} {M : Memref sig .tc sp s e} (hM : M.IsWhole) {off : Fin s.rank → ℕ} (hz : off = fun _ => 0)
    (inb : ∀ a, off a + s.size a ≤ s.size a) (f : M.view.ty.Contents (Elt F)) :
    M.view.readAt (Elt F) (Rect.unit (s := s) off s.size inb).toLoadRect f = M.view.read (Elt F) f := by
  obtain ⟨b, rfl, rfl, rfl, h⟩ := hM
  cases h
  exact Memref.readAt_unit_zero (Elt F) b hz _ f

omit [FloatOps F] in
theorem whole_write {sp : Space} {s : Shape} {e : EltTy} {M : Memref sig .tc sp s e} (hM : M.IsWhole) {off : Fin s.rank → ℕ} (hz : off = fun _ => 0)
    (inb : ∀ a, off a + s.size a ≤ s.size a) (f : M.view.ty.Contents (Elt F)) (w : s.Idx → Elt F e) :
    M.view.read (Elt F) ((M.access (Rect.unit (s := s) off s.size inb)).write (Elt F) f w Finset.univ) = w := by
  obtain ⟨b, rfl, rfl, rfl, h⟩ := hM
  cases h
  exact Memref.write_access_unit_zero_univ (Elt F) b hz inb f w

theorem step_load {sp : CoreSpace} {s : Shape} {e : EltTy} (c : Dev nD) {M : Memref sig .tc sp s e} (hM : M.IsWhole) {off : Fin s.rank → ℕ} (hz : off = fun _ => 0)
    {inb} {hl} (q : PosShare TreeShare) (X : s.Idx → Elt F e)
    {α : Type} {Q : α → sProp 𝕄} {k : (s.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ
              (.op (.load M (Rect.unit (s := s) off s.size inb).toLoadRect hl) k) Q) := by
  unfold owns
  iintro ⟨%f, %hf, H⟩ Hk
  iapply (wp_load 𝒱₀ (c : Thread nD τ) none Set.univ (m := M) (by
    rw [hM.set_eq_univ]; exact Finset.subset_univ _)) $$ H; iintro H
  rw [whole_readAt hM hz inb f, hf]
  iapply Hk
  iexists f
  isplitr; · ipureintro; exact hf
  iexact H

theorem step_store {sp : CoreSpace} {s : Shape} {e : EltTy} (c : Dev nD) {M : Memref sig .tc sp s e} (hM : M.IsWhole) {off : Fin s.rank → ℕ} (hz : off = fun _ => 0)
    {inb} {hx hm} (X w : s.Idx → Elt F e)
    {α : Type} {Q : α → sProp 𝕄} {k : PUnit → Prog (TpuEff nD τ sig (Elt F) Λ₀ .tc) α} :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit (s := s) off s.size inb) w Finset.univ hx hm) k) Q) := by
  unfold owns
  iintro ⟨%f, %hf, H⟩ Hk
  iapply (wp_store 𝒱₀ (c : Thread nD τ) none Set.univ (m := M) (r := Rect.unit (s := s) off s.size inb) (Mk := Finset.univ) (by
    rw [hM.set_eq_univ]; exact Finset.subset_univ _)) $$ H; iintro H
  iapply Hk
  iexists _
  isplitr [H]
  rotate_left
  · iexact H
  ipureintro
  exact whole_write hM hz inb f w

theorem step_load_half (c : Dev nD) (M : Memref sig .tc .vmem S8x1024x1024 .fp8e4m3) (t : Fin 8) (b : Fin 2) {off : Fin 3 → ℕ} (ho : off = ![t.val, 512 * b.val, 0])
    {inb hl} (q : PosShare TreeShare) (f : Buf (Elt F) ((half M t b).view.loc (c : Thread nD τ)))
    {α : Type} {Q : α → sProp 𝕄} {k : Vec F S1x512x1024 .fp8e4m3 → Prog (TpuEff nD τ sig (Elt F) Λ₀ .tc) α} :
    ((half M t b).view.loc (c : Thread nD τ) ↦[(half M t b).view.set]{q} f : sProp 𝕄)
      ⊢ iprop((((half M t b).view.loc (c : Thread nD τ) ↦[(half M t b).view.set]{q} f)
            -∗ wp frame (wpE (defs₀ (F := F)) 𝒱₀ (c : Thread nD τ) none) Set.univ (k ((M.access (rHalf t b)).read (Elt F) f)) Q)
          -∗ wp frame (wpE (defs₀ (F := F)) 𝒱₀ (c : Thread nD τ) none) Set.univ
              (.op (.load M (Rect.unit (s := S8x1024x1024) off S1x512x1024.size inb).toLoadRect hl) k) Q) := by
  subst ho
  iintro H Hk
  iapply (wp_load_rect 𝒱₀ (c : Thread nD τ) none Set.univ (m := M) (r := rHalf t b) (S := (half M t b).view.set)
    (by rw [Memref.set_view_squeeze])) $$ H
  iexact Hk

theorem step_load_xg (c d : Dev nD) {off : Fin 3 → ℕ} (ho : off = ![d.val, 0, 0])
    {inb hl} (q : PosShare TreeShare) (f : Buf (Elt F) ((xgSlot d).view.loc (c : Thread nD τ)))
    {α : Type} {Q : α → sProp 𝕄} {k : Vec F S1x1024x1024 .fp8e4m3 → Prog (TpuEff nD τ sig (Elt F) Λ₀ .tc) α} :
    ((xgSlot d).view.loc (c : Thread nD τ) ↦[(xgSlot d).view.set]{q} f : sProp 𝕄)
      ⊢ iprop((((xgSlot d).view.loc (c : Thread nD τ) ↦[(xgSlot d).view.set]{q} f)
            -∗ wp frame (wpE (defs₀ (F := F)) 𝒱₀ (c : Thread nD τ) none) Set.univ (k ((xgM.access (rXg d)).read (Elt F) f)) Q)
          -∗ wp frame (wpE (defs₀ (F := F)) 𝒱₀ (c : Thread nD τ) none) Set.univ
              (.op (.load xgM (Rect.unit (s := S4x1024x1024) off S1x1024x1024.size inb).toLoadRect hl) k) Q) := by
  subst ho
  iintro H Hk
  iapply (wp_load_rect 𝒱₀ (c : Thread nD τ) none Set.univ (m := xgM) (r := rXg d) (S := (xgSlot d).view.set)
    (by rw [Memref.set_view_squeeze])) $$ H
  iexact Hk

theorem step_load_wf (c : Dev nD) (t : Fin 8) {off : Fin 2 → ℕ} (ho : off = ![0, 1024 * t.val])
    {inb hl} (q : PosShare TreeShare) (f : Buf (Elt F) ((c : Thread nD τ).loc cc0_scratch4))
    {α : Type} {Q : α → sProp 𝕄} {k : Vec F S1024x1024 .fp8e4m3 → Prog (TpuEff nD τ sig (Elt F) Λ₀ .tc) α} :
    wfT c t q f
      ⊢ iprop((wfT c t q f -∗ wp frame (wpE (defs₀ (F := F)) 𝒱₀ (c : Thread nD τ) none) Set.univ (k ((wfM.access (rTile t)).read (Elt F) f)) Q)
          -∗ wp frame (wpE (defs₀ (F := F)) 𝒱₀ (c : Thread nD τ) none) Set.univ
              (.op (.load wfM (Rect.unit (s := S1024x8192) off S1024x1024.size inb).toLoadRect hl) k) Q) := by
  subst ho
  unfold wfT
  iintro H Hk
  iapply (wp_load_rect 𝒱₀ (c : Thread nD τ) none Set.univ (m := wfM) (r := rTile t) (S := (rTile t).set)
    (by rw [View.set_slice_whole])) $$ H
  iexact Hk

end Cert.KProof
-- ==== Proof.Bar.lean ====
module

public import proofs.«01_k».proof.Proof.States
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The neighbours the printed program names -/

section Names
variable (c : Dev nD)
theorem dv1 {h : k0_dev1 c < nD} : (⟨k0_dev1 c, h⟩ : Dev nD) = peer 1 c := Fin.ext (k0_dev1_eq c)
theorem dv2 {h : k0_dev2 c < nD} : (⟨k0_dev2 c, h⟩ : Dev nD) = peer 0 c := Fin.ext (k0_dev2_eq c)
theorem dv3 {h : k0_dev3 c < nD} : (⟨k0_dev3 c, h⟩ : Dev nD) = peer 2 c := Fin.ext (k0_dev3_eq c)
theorem dv4 {h : k0_dev4 c < nD} : (⟨k0_dev4 c, h⟩ : Dev nD) = peer 0 c := Fin.ext (k0_dev4_eq c)
theorem dv5 {h : k0_dev5 c < nD} : (⟨k0_dev5 c, h⟩ : Dev nD) = peer 0 c := Fin.ext (k0_dev5_eq c)
theorem dv6 {h : k0_dev6 c < nD} : (⟨k0_dev6 c, h⟩ : Dev nD) = peer 1 c := Fin.ext (k0_dev6_eq c)
theorem dv7 {h : k0_dev7 c < nD} : (⟨k0_dev7 c, h⟩ : Dev nD) = peer 1 c := Fin.ext (k0_dev7_eq c)
theorem dv8 {h : k0_dev8 c < nD} : (⟨k0_dev8 c, h⟩ : Dev nD) = peer 0 c := Fin.ext (k0_dev8_eq c)
theorem dv9 {h : k0_dev9 c < nD} : (⟨k0_dev9 c, h⟩ : Dev nD) = peer 1 c := Fin.ext (k0_dev9_eq c)
theorem dv10 {h : k0_dev10 c < nD} : (⟨k0_dev10 c, h⟩ : Dev nD) = peer 2 c := Fin.ext (k0_dev10_eq c)
theorem dv11 {h : k0_dev11 c < nD} : (⟨k0_dev11 c, h⟩ : Dev nD) = peer 0 c := Fin.ext (k0_dev11_eq c)
theorem dv12 {h : k0_dev12 c < nD} : (⟨k0_dev12 c, h⟩ : Dev nD) = peer 1 c := Fin.ext (k0_dev12_eq c)
theorem dv13 {h : k0_dev13 c < nD} : (⟨k0_dev13 c, h⟩ : Dev nD) = peer 0 c := Fin.ext (k0_dev13_eq c)
theorem dv14 {h : k0_dev14 c < nD} : (⟨k0_dev14 c, h⟩ : Dev nD) = peer 0 c := Fin.ext (k0_dev14_eq c)
theorem dv15 {h : k0_dev15 c < nD} : (⟨k0_dev15 c, h⟩ : Dev nD) = peer 1 c := Fin.ext (k0_dev15_eq c)
theorem dv16 {h : k0_dev16 c < nD} : (⟨k0_dev16 c, h⟩ : Dev nD) = peer 1 c := Fin.ext (k0_dev16_eq c)
end Names

/-! ## The barrier -/

/-- The slots of device `c` that its neighbour on the other side of direction `d` fills. -/
def own (c : Dev nD) (d : Fin 3) : sProp 𝕄 := bigSep (Finset.univ.filter fun i : Msg => dir i = d) fun i => slotO (F := F) c i

omit [FloatOps F] in
theorem own_pay (c p : Dev nD) (d : Fin 3) (hp : p = peer (opp d) c) : own (F := F) c d = barPay p d := by
  unfold own barPay
  refine bigSep_congr fun i hi => ?_
  rw [slotO_eq, hp, ← (Finset.mem_filter.mp hi).2]

omit [FloatOps F] in
theorem own_all (c : Dev nD) : (bigSep Finset.univ fun i : Msg => slotO (F := F) c i) = bigSep Finset.univ fun d => own (F := F) c d := by
  unfold own
  rw [← bigSep_biUnion_eq]
  · congr 1
    ext i; simp
  · intro d _ d' _ h
    exact Finset.disjoint_filter.mpr fun i _ h1 h2 => h (h1.symm.trans h2)

/-- One signal to a neighbour's barrier hands over the slots that neighbour fills. -/
theorem step_signal (c n : Dev nD) (d : Fin 3) (hn : n = peer (opp d) c) {s : Sem sig} (hs : s = barS)
    (O : CellTallies nD τ sig Unit)
    {α : Type} {Q : α → sProp 𝕄} {k : PUnit → Prog (TpuEff nD τ sig (Elt F) Λ₀ .tc) α} :
    iprop(Ctx m K ∗ own (F := F) c d ∗ dutyTok (ER (F := F)) (barC (peer (opp d) c)) 0 d
        ∗ owesE (F := F) c (O + tallyAt (barC (peer (opp d) c)) () 1))
      ⊢ iprop((owesE (F := F) c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) s (1#32 : BitVec 32).toNat) k) Q) := by
  subst hn hs
  unfold owesE
  iintro ⟨#HC, Hp, Hd, ⟨%W, HO⟩⟩ Hk
  ihave Hp := (Entails.of_eq (own_pay c _ d rfl)) $$ Hp
  iapply (Rounds.wp_signal 𝒱₀ ER (sched m) (c : Thread nD τ) none (dst := ((peer (opp d) c : Dev nD) : Thread nD τ)) (κ := K (peer (opp d) c, .inl ()))
      (d := d) (by rw [duties_bar]; exact Finset.mem_univ _) ((amount_bar m (peer (opp d) c) d).trans (by decide)) () O rfl) $$ [Hp Hd HO]
  · isplitr; · iapply (ctx_inv m K (peer (opp d) c, .inl ())); iexact HC
    isplitl [HO]; · iexact HO
    isplitl [Hd]; · iexact Hd
    isplitl [Hp]; · rw [payload_bar]; iexact Hp
    iapply (ctx_reached m K (peer (opp d) c, .inl ())); iexact HC
  iintro HO
  iapply Hk
  iexists _; iexact HO

/-- The wait for the three neighbours: it hands over every slot this device fills. -/
theorem step_barwait (c : Dev nD) {s : Sem sig} (hs : s = barS)
    {α : Type} {Q : α → sProp 𝕄} {k : PUnit → Prog (TpuEff nD τ sig (Elt F) Λ₀ .tc) α} :
    iprop(Ctx m K ∗ cred (tallyAt (barC c) () 3) ∗ atPos (ER (F := F)) (barC c) 0 ∅ 0 ∗ owesE (F := F) c (OB0 c))
      ⊢ iprop((((bigSep Finset.univ fun i : Msg => piece (F := F) c i) ∗ semVal (barC c) 0 ∗ owesE (F := F) c (OB0 c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s (3#32 : BitVec 32).toNat) k) Q) := by
  subst hs
  unfold owesE
  iintro ⟨#HC, Hc, Hat, ⟨%W, HO⟩⟩ Hk
  iapply (Rounds.wp_wait_rest_token 𝒱₀ ER (sched m) (c : Thread nD τ) none (κ := K (c, .inl ()))
      (wpE_semWait_eq 𝒱₀ (c : Thread nD τ) none Set.univ) (Set.mem_univ _) () (O := OB0 c) (W := W) (R := 0) (m := 0) (T := ∅)
      (by rw [expect_bar]; decide)) $$ [Hc HO Hat]
  · isplitr; · iapply (ctx_inv m K (c, .inl ())); iexact HC
    isplitl [Hc]; · iexact Hc
    isplitl [HO]; · iexact HO
    isplitr; · iapply (mayWait_Ow c (.reg barS) Finset.univ (fun j _ => lvl_pos j)); iapply (ctx_lev m K); iexact HC
    iexact Hat
  iintro ⟨HO, Hat, -, Hpay⟩
  ihave Hp := (Entails.of_eq ((rest_bar m c).trans (bar_pieces c))) $$ Hpay
  imod (Rounds.cell_close ER (sched m) (Set.mem_univ (K (c, .inl ()))) (fun h => h) (R := 0 + 1) (duties_later m (barC c))) $$ [Hat] with Hz
  · isplitr; · iapply (ctx_inv m K (c, .inl ())); iexact HC
    iexact Hat
  iapply Hk
  isplitl [Hp]; · iexact Hp
  isplitl [Hz]; · iexact Hz
  iexists _; iexact HO

/-- What the barrier of device `c` needs at the launch. -/
def barI (c : Dev nD) : sProp 𝕄 :=
  iprop(cred (tallyAt (barC c) () 3) ∗ atPos (ER (F := F)) (barC c) 0 ∅ 0
    ∗ dutyTok (ER (F := F)) (barC (peer (opp 0) c)) 0 0 ∗ dutyTok (ER (F := F)) (barC (peer (opp 1) c)) 0 1 ∗ dutyTok (ER (F := F)) (barC (peer (opp 2) c)) 0 2)

theorem fam3 (P : Fin 3 → sProp 𝕄) : bigSep Finset.univ P = iprop(P 0 ∗ P 1 ∗ P 2) := by
  rw [bigSep_univ_eq_bigSepL [0, 1, 2] (by decide) (by decide)]; rfl

/-- The first part of the start: the first tile of `w`, then the barrier. -/
theorem part1_spec (i : grid0.Coords) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (v5 v7 v9 : BitVec 32) (h1 : k0_cond1 i = 1#1) {Q : PUnit → sProp 𝕄} :
    iprop(Ctx m K ∗ argW m c ∗ stgP (F := F) c ∗ semVal (cpC c 0) 0 ∗ owesE (F := F) c (OB3 c) ∗ (∃ f, wfT c 0 fullShare f)
        ∗ barI (F := F) c ∗ bigSep Finset.univ fun j : Msg => slotO (F := F) c j)
      ⊢ iprop(((argW m c ∗ stgP (F := F) c ∗ semVal (cpC c 0) 0 ∗ owesE (F := F) c (Ow Finset.univ c) ∗ wfT c 0 fullShare (WF m c)
            ∗ semVal (barC c) 0 ∗ bigSep Finset.univ fun j : Msg => piece (F := F) c j) -∗ Q ⟨⟩)
          -∗ wp frame (wpE (defs₀ (F := F)) 𝒱₀ (c : Thread nD τ) none) Set.univ (k0_part1_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v5 v7 v9 h1) Q) := by
  unfold k0_part1_skel
  simp only [semSignalWord, semWaitWord, Prog.lift, Prog.bind_op, Prog.bind_ret, Prog.pure_eq_ret]
  rw [own_all, fam3]
  unfold barI
  iintro ⟨#HC, HA, Hst, Hz, HO, Hw, ⟨Hc, Hat, Hd0, Hd1, Hd2⟩, Ho0, Ho1, Ho2⟩ Hk
  iapply (wp_cvt_w m K c 0 0 rfl rfl rfl rfl rfl rfl (sem_copy 0 rfl) (sem_copy 0 rfl) rfl (mayWait_OB3 c _ (lvS_copy 0))) $$ [HA Hst Hz HO Hw]
  · isplitr; · iexact HC
    isplitl [HA]; · iexact HA
    isplitl [Hst]; · iexact Hst
    isplitl [Hz]; · iexact Hz
    isplitl [HO]; · iexact HO
    iexact Hw
  iintro ⟨HA, Hst, Hz, HO, Hw⟩
  iapply (step_signal m K c _ 0 (dv1 c) rfl (OB2 c)) $$ [Ho0 Hd0 HO]
  · isplitr; · iexact HC
    isplitl [Ho0]; · iexact Ho0
    isplitl [Hd0]; · iexact Hd0
    iexact HO
  iintro HO
  iapply (step_signal m K c _ 1 (dv2 c) rfl (OB1 c)) $$ [Ho1 Hd1 HO]
  · isplitr; · iexact HC
    isplitl [Ho1]; · iexact Ho1
    isplitl [Hd1]; · iexact Hd1
    iexact HO
  iintro HO
  iapply (step_signal m K c _ 2 (dv3 c) rfl (OB0 c)) $$ [Ho2 Hd2 HO]
  · isplitr; · iexact HC
    isplitl [Ho2]; · iexact Ho2
    isplitl [Hd2]; · iexact Hd2
    iexact HO
  iintro HO
  iapply (step_barwait m K c rfl) $$ [Hc Hat HO]
  · isplitr; · iexact HC
    isplitl [Hc]; · iexact Hc
    isplitl [Hat]; · iexact Hat
    iexact HO
  iintro ⟨Hp, Hb, HO⟩
  rw [wp_ret]
  imodintro
  iapply Hk
  isplitl [HA]; · iexact HA
  isplitl [Hst]; · iexact Hst
  isplitl [Hz]; · iexact Hz
  isplitl [HO]; · iexact HO
  isplitl [Hw]; · iexact Hw
  isplitl [Hb]; · iexact Hb
  iexact Hp

end Cert.KProof
-- ==== Proof.Tiles.lean ====
module

public import proofs.«01_k».proof.Proof.Bar
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The shares of what is sent -/

omit [FloatOps F] in
theorem both {P Q : sProp 𝕄} (h : P ⊢ Q) (h' : Q ⊢ P) : P = Q := Entails.antisymm h h'

omit [FloatOps F] in
theorem pts_halves {ℓ : Loc nD τ sig} {I : Finset ((ℓ.ty).shape.Idx)} (q : PosShare TreeShare) (f : Buf (Elt F) ℓ) :
    (ℓ ↦[I]{q} f : sProp 𝕄) = iprop((ℓ ↦[I]{q.left} f) ∗ (ℓ ↦[I]{q.right} f)) :=
  have h : _ ⊣⊢ _ := pointsTo_share (PosShare.mem_left_op_right q)
  h.1.antisymm h.2

omit [FloatOps F] in
theorem pts_union {ℓ : Loc nD τ sig} {I J : Finset ((ℓ.ty).shape.Idx)} (hd : Disjoint I J) (q : PosShare TreeShare) (f : Buf (Elt F) ℓ) :
    (ℓ ↦[I ∪ J]{q} f : sProp 𝕄) = iprop((ℓ ↦[I]{q} f) ∗ (ℓ ↦[J]{q} f)) :=
  have h : _ ⊣⊢ _ := pointsTo_union hd
  h.1.antisymm h.2

omit [FloatOps F] in
/-- A buffer's region in two halves: one share of all of it stays, and two shares of each half go. -/
theorem pts_five {ℓ : Loc nD τ sig} {I J S : Finset ((ℓ.ty).shape.Idx)} (hS : S = I ∪ J) (hd : Disjoint I J) (f : Buf (Elt F) ℓ) :
    (ℓ ↦[S]{fullShare} f : sProp 𝕄)
      = iprop((ℓ ↦[S]{fullShare.left} f) ∗ (ℓ ↦[I]{fullShare.right.left} f) ∗ (ℓ ↦[J]{fullShare.right.left} f)
        ∗ (ℓ ↦[J]{fullShare.right.right} f) ∗ (ℓ ↦[I]{fullShare.right.right} f)) := by
  rw [pts_halves fullShare f, show (ℓ ↦[S]{fullShare.right} f : sProp 𝕄) = (ℓ ↦[I ∪ J]{fullShare.right} f : sProp 𝕄) from by rw [hS],
    pts_union hd, pts_halves fullShare.right f, pts_halves fullShare.right f]
  exact both (by iintro ⟨A, ⟨B, C⟩, D, E⟩; iframe) (by iintro ⟨A, B, D, E, C⟩; iframe)

theorem tile_halves (t : Fin 8) : (rTile t).set = (rWfh t 0).set ∪ (rWfh t 1).set := by
  ext i
  simp only [Finset.mem_union, Rect.mem_set_unit, Fin.forall_fin_two]
  have h0 : (i 0).val < 1024 := (i 0).isLt
  simp
  omega

theorem halves_disjoint (t : Fin 8) : Disjoint (rWfh t 0).set (rWfh t 1).set := by
  rw [Finset.disjoint_left]
  intro i h0 h1
  have a := (Rect.mem_set_unit.mp h0) 0
  have b := (Rect.mem_set_unit.mp h1) 0
  simp at a b
  omega

/-- The share of tile `t` of the rounded weights that stays on the device while the four copies are in flight. -/
def keepW (c : Dev nD) (t : Fin 8) : sProp 𝕄 := wfT c t fullShare.left (WF m c)
/-- The share of the top half got from the left that stays while it is passed on. -/
def keepF (c : Dev nD) (t : Fin 8) : sProp 𝕄 := (half wlM t 0).view.loc (c : Thread nD τ) ↦[(half wlM t 0).view.set]{fullShare.left} WT m (peer 1 c)
/-- The share of the bottom half got from the right that stays while it is passed on. -/
def keepG (c : Dev nD) (t : Fin 8) : sProp 𝕄 := (half wrM t 1).view.loc (c : Thread nD τ) ↦[(half wrM t 1).view.set]{fullShare.left} WT m (peer 0 c)

theorem wf_shares (c : Dev nD) (t : Fin 8) : wfT c t fullShare (WF m c)
    = iprop(keepW m c t ∗ srcP m c (.inl (t, .lt)) ∗ srcP m c (.inl (t, .lb)) ∗ srcP m c (.inl (t, .rb)) ∗ srcP m c (.inl (t, .rt))) := by
  have e0 : (wfHalf t 0).view.set = (rWfh t 0).set := View.set_slice_whole _ _
  have e1 : (wfHalf t 1).view.set = (rWfh t 1).set := View.set_slice_whole _ _
  have h := pts_five (F := F) (ℓ := (c : Thread nD τ).loc cc0_scratch4) (tile_halves t) (halves_disjoint t) (WF m c)
  rw [← e0, ← e1] at h
  exact h

theorem f_shares (c : Dev nD) (t : Fin 8) : dstP m c (.inl (t, .lt)) = iprop(keepF m c t ∗ srcP m c (.inl (t, .f))) :=
  pts_halves fullShare _
theorem g_shares (c : Dev nD) (t : Fin 8) : dstP m c (.inl (t, .rb)) = iprop(keepG m c t ∗ srcP m c (.inl (t, .g))) :=
  pts_halves fullShare _

theorem x_src (c : Dev nD) (j : Fin 3) : xfR c (peer j c) (XF m c) = srcP m c (.inr j) := by
  have e : (xfRows (peer j c)).view.set = (rXf (peer j c)).set := View.set_slice_whole _ _
  unfold xfR
  rw [← e]; rfl

/-! ## The device's own block of `x` -/

/-- The slot of the gathered `x` that holds what device `d` sent. -/
def xgR (c d : Dev nD) : sProp 𝕄 := (xgSlot d).view.loc (c : Thread nD τ) ↦[(xgSlot d).view.set]{fullShare} XG m c
/-- The slot of the gathered `x` a device fills itself, holding anything. -/
def xgO (c : Dev nD) : sProp 𝕄 :=
  iprop(∃ f : Buf (Elt F) ((xgSlot c).view.loc (c : Thread nD τ)), (xgSlot c).view.loc (c : Thread nD τ) ↦[(xgSlot c).view.set]{fullShare} f)

theorem x_dst (c : Dev nD) (j : Fin 3) : dstP m c (.inr j) = xgR m c (peer (opp j) c) := rfl

theorem own_lands (c : Dev nD) : (xgSlot c).view.read (Elt F) (XG m c) = (xfRows c).view.read (Elt F) (XF m c) := by
  funext x
  show XF m (⟨((rXg c).emb (Shape.reshapeEquiv _ x) 0).val, _⟩ : Dev nD) (xIx c ((rXg c).emb (Shape.reshapeEquiv _ x))) = XF m c ((rXf c).emb x)
  rw [xIx_emb]
  exact congrArg (fun e => XF m e ((rXf c).emb x)) (xgDev_emb c _ x _)

/-- The device's own block goes to its own slot by a local copy, waited for at once. -/
theorem step_own (c : Dev nD) {src : Memref sig .tc .vmem S1024x1024 .fp8e4m3} {dst : Memref sig .tc .vmem S1024x1024 .fp8e4m3}
    (hs : src = xfRows c) (hd : dst = xgSlot c) {sm sm' : DmaSem sig} (hsm : sm = cpS 0) (hsm' : sm' = cpS 0)
    {srcw dstw : Memref sig .tc .vmem S1024x1024 .fp8e4m3} (hdw : dstw = xgSlot c) {p1 p2 p3 p4 p5}
    {O : CellTallies nD τ sig Unit} (hO : (levAts L lv : sProp 𝕄) ⊢ MayWait (c : Thread nD τ) (.dma (cpS 0)) () O)
    {α : Type} {Q : α → sProp 𝕄} {k : PUnit → Prog (TpuEff nD τ sig (Elt F) Λ₀ .tc) α} :
    iprop(Ctx m K ∗ xfR c c (XF m c) ∗ xgO (F := F) c ∗ semVal (cpC c 0) 0 ∗ owesE (F := F) c O)
      ⊢ iprop(((xfR c c (XF m c) ∗ xgR m c c ∗ semVal (cpC c 0) 0 ∗ owesE (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma sm) p1 p2 p3) fun _ => .op (.waitDma2 sm' srcw dstw p4 p5) k) Q) := by
  subst hs hd hsm hsm' hdw
  have e : (xfRows c).view.set = (rXf c).set := View.set_slice_whole _ _
  unfold xfR xgO xgR owesE
  rw [← e]
  iintro ⟨#HC, Hs, ⟨%fd, Hd⟩, Hz, ⟨%W, HO⟩⟩ Hk
  iapply (Transfers.wp_dmaLocal (countersEmb (U := UU)) 𝒱₀ (c : Thread nD τ) none (src := xfRows c) (dst := xgSlot c) (via := ReadAs.same) (fs := XF m c) (fd := fd)
    (Sd := (xgSlot c).view.set) () NX (show (xgSlot c).view.amount (.dma (cpS 0)) = NX from rfl) NX_pos (Finset.Subset.refl _)) $$ [Hs Hd Hz]
  · isplitl [Hs]; · iexact Hs
    isplitl [Hd]; · iexact Hd
    iexact Hz
  iintro HF
  iapply (Transfers.wp_waitLocalO (countersEmb (U := UU)) 𝒱₀ (c : Thread nD τ) none () (N := NX) (show (xgSlot c).view.dmaCredit = NX from rfl) (O := O) (W := W)) $$ [HF HO]
  · isplitl [HF]; · iexact HF
    isplitl [HO]; · iexact HO
    iapply hO; iapply (ctx_lev m K); iexact HC
  iintro ⟨⟨Hd, Hs⟩, Hz, HO⟩
  iapply Hk
  isplitl [Hs]; · iexact Hs
  isplitl [Hd]
  · iapply (Entails.of_eq (pointsTo_congr (ℓ := (xgSlot c).view.loc (c : Thread nD τ)) (q := fullShare) (I := (xgSlot c).view.set)
      (write_agree (xgSlot c).view fd (XG m c) _ (own_lands m c))))
    iexact Hd
  isplitl [Hz]; · iexact Hz
  iexists _; iexact HO

end Cert.KProof
-- ==== Proof.Start.lean ====
module

public import proofs.«01_k».proof.Proof.Tiles
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## What is left to send -/

def late (n : ℕ) : Msg → Bool
  | .inl (t, .f) | .inl (t, .g) => n ≤ t.val
  | .inl (t, _) => n < t.val
  | .inr _ => false
/-- The messages a device has not sent when step `n` begins (at step 0: once the start is over). -/
def pend (n : ℕ) : Finset Msg := Finset.univ.filter fun i => late n i = true

/-- `S` without the four copies of tile `t`. -/
abbrev sent4 (S : Finset Msg) (t : Fin 8) : Finset Msg :=
  (((S.erase (.inl (t, .lt))).erase (.inl (t, .lb))).erase (.inl (t, .rb))).erase (.inl (t, .rt))

theorem pend_zero : (((sent4 Finset.univ 0).erase (.inr 0)).erase (.inr 1)).erase (.inr 2) = pend 0 := by decide
theorem pend_last : pend 8 = ∅ := by decide
theorem mem_pend_f (t : Fin 8) : (.inl (t, .f) : Msg) ∈ pend t.val := by revert t; decide
theorem mem_pend_g (t : Fin 8) : (.inl (t, .g) : Msg) ∈ (pend t.val).erase (.inl (t, .f)) := by revert t; decide
abbrev sentFG (t : Fin 8) : Finset Msg := ((pend t.val).erase (.inl (t, .f))).erase (.inl (t, .g))
theorem mem_fg_lt (t u : Fin 8) (h : u.val = t.val + 1) : (.inl (u, .lt) : Msg) ∈ sentFG t := by revert t u; decide
theorem mem_fg_lb (t u : Fin 8) (h : u.val = t.val + 1) : (.inl (u, .lb) : Msg) ∈ (sentFG t).erase (.inl (u, .lt)) := by revert t u; decide
theorem mem_fg_rb (t u : Fin 8) (h : u.val = t.val + 1) : (.inl (u, .rb) : Msg) ∈ ((sentFG t).erase (.inl (u, .lt))).erase (.inl (u, .lb)) := by revert t u; decide
theorem mem_fg_rt (t u : Fin 8) (h : u.val = t.val + 1) :
    (.inl (u, .rt) : Msg) ∈ (((sentFG t).erase (.inl (u, .lt))).erase (.inl (u, .lb))).erase (.inl (u, .rb)) := by revert t u; decide
theorem pend_succ (t u : Fin 8) (h : u.val = t.val + 1) : sent4 (sentFG t) u = pend (t.val + 1) := by revert t u; decide
theorem pend_end : sentFG 7 = pend 8 := by decide

theorem lvl_late (n : ℕ) (i : Msg) (hi : i ∈ pend n) : 3 + 4 * n < lvl i := by
  have h : late n i = true := (Finset.mem_filter.mp hi).2
  rcases i with ⟨t, k⟩ | j
  · cases k <;> simp [late, lvl] at h ⊢ <;> omega
  · simp [late] at h
theorem lvl_fg (t : Fin 8) : ∀ i ∈ sentFG t, 5 + 4 * t.val < lvl i := by revert t; decide
theorem mayCp (c : Dev nD) (s : Fin 2) (S : Finset Msg) : (levAts L lv : sProp 𝕄) ⊢ MayWait (c : Thread nD τ) (.dma (cpS s)) () (Ow S c) :=
  mayWait_Ow c _ S fun i _ => by rw [lvS_copy]; exact lt_trans Nat.one_pos (lvl_pos i)

/-! ## The start -/

theorem part2_spec (i : grid0.Coords) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (v5 v7 : BitVec 32) (h1 : k0_cond1 i = 1#1) {Q : BitVec 32 → sProp 𝕄} :
    iprop(Ctx m K ∗ owesE (F := F) c (Ow Finset.univ c)
        ∗ srcP m c (.inl (0, .lt)) ∗ sndI (F := F) c (.inl (0, .lt)) ∗ srcP m c (.inl (0, .lb)) ∗ sndI (F := F) c (.inl (0, .lb))
        ∗ srcP m c (.inl (0, .rb)) ∗ sndI (F := F) c (.inl (0, .rb)))
      ⊢ iprop((∀ v, (owesE (F := F) c (Ow (((Finset.univ.erase (.inl (0, .lt))).erase (.inl (0, .lb))).erase (.inl (0, .rb))) c)
            ∗ sntI (F := F) c (.inl (0, .lt)) ∗ sntI (F := F) c (.inl (0, .lb)) ∗ sntI (F := F) c (.inl (0, .rb))) -∗ Q v)
          -∗ wp frame (wpE (defs₀ (F := F)) 𝒱₀ (c : Thread nD τ) none) Set.univ (k0_part2_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v5 v7 h1) Q) := by
  unfold k0_part2_skel
  simp only [Prog.lift, Prog.bind_op, Prog.bind_ret, Prog.pure_eq_ret]
  iintro ⟨#HC, HO, S0, T0, S1, T1, S2, T2⟩ Hk
  iapply (step_send m K c _ (.inl (0, .lt)) (dv4 c) (wfHalf_eq 0 0 rfl) (half_eq wlM 0 0 rfl) (sem_send (.inl (0, .lt)) rfl) (sem_recv (.inl (0, .lt)) rfl)
    (Finset.mem_univ _)) $$ [HO S0 T0]
  · iframe HC S0 T0 HO
  iintro ⟨T0, HO⟩
  iapply (step_send m K c _ (.inl (0, .lb)) (dv5 c) (wfHalf_eq 0 1 rfl) (half_eq wlM 0 1 rfl) (sem_send (.inl (0, .lb)) rfl) (sem_recv (.inl (0, .lb)) rfl)
    (S := Finset.univ.erase (.inl (0, .lt))) (by decide)) $$ [HO S1 T1]
  · iframe HC S1 T1 HO
  iintro ⟨T1, HO⟩
  iapply (step_send m K c _ (.inl (0, .rb)) (dv6 c) (wfHalf_eq 0 1 rfl) (half_eq wrM 0 1 rfl) (sem_send (.inl (0, .rb)) rfl) (sem_recv (.inl (0, .rb)) rfl)
    (S := (Finset.univ.erase (.inl (0, .lt))).erase (.inl (0, .lb))) (by decide)) $$ [HO S2 T2]
  · iframe HC S2 T2 HO
  iintro ⟨T2, HO⟩
  rw [wp_ret]
  imodintro
  iapply Hk
  iframe

theorem part3_spec (i : grid0.Coords) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (v7 : BitVec 32) (h1 : k0_cond1 i = 1#1) (v269 : BitVec 32)
    {S : Finset Msg} (hS : (.inl (0, .rt) : Msg) ∈ S) {Q : PUnit → sProp 𝕄} :
    iprop(Ctx m K ∗ owesE (F := F) c (Ow S c) ∗ srcP m c (.inl (0, .rt)) ∗ sndI (F := F) c (.inl (0, .rt))
        ∗ argX m c ∗ stgP (F := F) c ∗ semVal (cpC c 0) 0 ∗ (∃ f, xfR c (peer 0 c) f))
      ⊢ iprop(((owesE (F := F) c (Ow (S.erase (.inl (0, .rt))) c) ∗ sntI (F := F) c (.inl (0, .rt))
            ∗ argX m c ∗ stgP (F := F) c ∗ semVal (cpC c 0) 0 ∗ xfR c (peer 0 c) (XF m c)) -∗ Q ⟨⟩)
          -∗ wp frame (wpE (defs₀ (F := F)) 𝒱₀ (c : Thread nD τ) none) Set.univ (k0_part3_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v7 h1 v269) Q) := by
  unfold k0_part3_skel
  simp only [Prog.lift, Prog.bind_op, Prog.bind_ret, Prog.pure_eq_ret]
  iintro ⟨#HC, HO, S0, T0, HA, Hst, Hz, Hx⟩ Hk
  iapply (step_send m K c _ (.inl (0, .rt)) (dv7 c) (wfHalf_eq 0 0 rfl) (half_eq wrM 0 0 rfl) (sem_send (.inl (0, .rt)) rfl) (sem_recv (.inl (0, .rt)) rfl)
    hS) $$ [HO S0 T0]
  · iframe HC S0 T0 HO
  iintro ⟨T0, HO⟩
  iapply (wp_cvt_x m K c 0 (peer 0 c) (k0_off1_eq c 0) (k0_off2_eq c 0) (k0_off2_eq c 0) rfl rfl rfl (sem_copy 0 rfl) (sem_copy 0 rfl) rfl (mayCp c 0 _)) $$ [HO HA Hst Hz Hx]
  · iframe HC HA Hst Hz HO Hx
  iintro ⟨HA, Hst, Hz, HO, Hx⟩
  rw [wp_ret]
  imodintro
  iapply Hk
  iframe

theorem part4_spec (i : grid0.Coords) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (v5 : BitVec 32) (h1 : k0_cond1 i = 1#1)
    {S : Finset Msg} (hS : (.inr 0 : Msg) ∈ S) {Q : PUnit → sProp 𝕄} :
    iprop(Ctx m K ∗ owesE (F := F) c (Ow S c) ∗ srcP m c (.inr 0) ∗ sndI (F := F) c (.inr 0)
        ∗ argX m c ∗ stgP (F := F) c ∗ semVal (cpC c 1) 0 ∗ (∃ f, xfR c (peer 1 c) f))
      ⊢ iprop(((owesE (F := F) c (Ow (S.erase (.inr 0)) c) ∗ sntI (F := F) c (.inr 0)
            ∗ argX m c ∗ stgP (F := F) c ∗ semVal (cpC c 1) 0 ∗ xfR c (peer 1 c) (XF m c)) -∗ Q ⟨⟩)
          -∗ wp frame (wpE (defs₀ (F := F)) 𝒱₀ (c : Thread nD τ) none) Set.univ (k0_part4_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v5 h1) Q) := by
  unfold k0_part4_skel
  simp only [Prog.lift, Prog.bind_op, Prog.bind_ret, Prog.pure_eq_ret]
  iintro ⟨#HC, HO, S0, T0, HA, Hst, Hz, Hx⟩ Hk
  iapply (step_send m K c _ (.inr 0) (dv8 c) (xfRows_eq (peer 0 c) (k0_off1_eq c 0)) (xgSlot_eq c (k0_off3_eq c)) (sem_send (.inr 0) rfl) (sem_recv (.inr 0) rfl)
    hS) $$ [HO S0 T0]
  · iframe HC S0 T0 HO
  iintro ⟨T0, HO⟩
  iapply (wp_cvt_x m K c 1 (peer 1 c) (k0_off4_eq c) (k0_off5_eq c) (k0_off5_eq c) rfl rfl rfl (sem_copy 1 rfl) (sem_copy 1 rfl) rfl (mayCp c 1 _)) $$ [HO HA Hst Hz Hx]
  · iframe HC HA Hst Hz HO Hx
  iintro ⟨HA, Hst, Hz, HO, Hx⟩
  rw [wp_ret]
  imodintro
  iapply Hk
  iframe

theorem part5_spec (i : grid0.Coords) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (v9 : BitVec 32) (h1 : k0_cond1 i = 1#1)
    {S : Finset Msg} (hS : (.inr 1 : Msg) ∈ S) {Q : PUnit → sProp 𝕄} :
    iprop(Ctx m K ∗ owesE (F := F) c (Ow S c) ∗ srcP m c (.inr 1) ∗ sndI (F := F) c (.inr 1)
        ∗ argX m c ∗ stgP (F := F) c ∗ semVal (cpC c 0) 0 ∗ (∃ f, xfR c (peer 2 c) f))
      ⊢ iprop(((owesE (F := F) c (Ow (S.erase (.inr 1)) c) ∗ sntI (F := F) c (.inr 1)
            ∗ argX m c ∗ stgP (F := F) c ∗ semVal (cpC c 0) 0 ∗ xfR c (peer 2 c) (XF m c)) -∗ Q ⟨⟩)
          -∗ wp frame (wpE (defs₀ (F := F)) 𝒱₀ (c : Thread nD τ) none) Set.univ (k0_part5_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v9 h1) Q) := by
  unfold k0_part5_skel
  simp only [Prog.lift, Prog.bind_op, Prog.bind_ret, Prog.pure_eq_ret]
  iintro ⟨#HC, HO, S0, T0, HA, Hst, Hz, Hx⟩ Hk
  iapply (step_send m K c _ (.inr 1) (dv9 c) (xfRows_eq (peer 1 c) (k0_off4_eq c)) (xgSlot_eq c (k0_off3_eq c)) (sem_send (.inr 1) rfl) (sem_recv (.inr 1) rfl)
    hS) $$ [HO S0 T0]
  · iframe HC S0 T0 HO
  iintro ⟨T0, HO⟩
  iapply (wp_cvt_x m K c 0 (peer 2 c) (k0_off1_eq c 1) (k0_off2_eq c 1) (k0_off2_eq c 1) rfl rfl rfl (sem_copy 0 rfl) (sem_copy 0 rfl) rfl (mayCp c 0 _)) $$ [HO HA Hst Hz Hx]
  · iframe HC HA Hst Hz HO Hx
  iintro ⟨HA, Hst, Hz, HO, Hx⟩
  rw [wp_ret]
  imodintro
  iapply Hk
  iframe

/-- The copy of a device's own rows of `x` to the staging buffer, in flight. -/
def ownFl (c : Dev nD) : sProp 𝕄 :=
  copyFl c 0 ((Memref.whole main_arg0 : Memref sig .tc .hbm S4096x1024 .f32).slice (Rect.unit (s := S4096x1024) ![1024 * c.val, 0] S1024x1024.size (inb_xf c)) (fun _ => rfl))
    (m ((c : Thread nD τ).loc main_arg0))

theorem own_start (c : Dev nD) {oA : Fin 2 → ℕ} (hA : oA = ![1024 * c.val, 0]) {bA} {dst : Memref sig .tc .vmem S1024x1024 .f32} (hd : dst = stSlot 0)
    {sm : DmaSem sig} (hsm : sm = cpS 0) {p1 p2 p3} {α : Type} {Q : α → sProp 𝕄} {k : PUnit → Prog (TpuEff nD τ sig (Elt F) Λ₀ .tc) α} :
    iprop(argX m c ∗ stgP (F := F) c ∗ semVal (cpC c 0) 0)
      ⊢ iprop((ownFl m c -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma ((Memref.whole main_arg0 : Memref sig .tc .hbm S4096x1024 .f32).slice (Rect.unit (s := S4096x1024) oA S1024x1024.size bA) (fun _ => rfl))
                  (.here dst) (.dma sm) p1 p2 p3) k) Q) := by
  subst hA
  unfold argX ownFl
  iintro ⟨HA, Hst, Hz⟩ Hk
  iapply (wp_copy_start c 0 hd hsm (m ((c : Thread nD τ).loc main_arg0))) $$ [HA Hst Hz]
  · isplitl [HA]; · iexact HA
    isplitl [Hst] <;> iassumption
  iexact Hk

theorem part6_spec (i : grid0.Coords) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (v2 : BitVec 32) (h1 : k0_cond1 i = 1#1)
    {S : Finset Msg} (hS : (.inr 2 : Msg) ∈ S) {Q : PUnit → sProp 𝕄} :
    iprop(Ctx m K ∗ owesE (F := F) c (Ow S c) ∗ srcP m c (.inr 2) ∗ sndI (F := F) c (.inr 2)
        ∗ argX m c ∗ argW m c ∗ stgP (F := F) c ∗ semVal (cpC c 0) 0 ∗ semVal (cpC c 1) 0 ∗ (∃ f, wfT c 1 fullShare f))
      ⊢ iprop(((owesE (F := F) c (Ow (S.erase (.inr 2)) c) ∗ sntI (F := F) c (.inr 2)
            ∗ ownFl m c ∗ argW m c ∗ semVal (cpC c 1) 0 ∗ wfT c 1 fullShare (WF m c)) -∗ Q ⟨⟩)
          -∗ wp frame (wpE (defs₀ (F := F)) 𝒱₀ (c : Thread nD τ) none) Set.univ (k0_part6_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 c v2 h1) Q) := by
  unfold k0_part6_skel
  simp only [Prog.lift, Prog.bind_op, Prog.bind_ret, Prog.pure_eq_ret]
  iintro ⟨#HC, HO, S0, T0, HX, HA, Hst, Hz0, Hz, Hx⟩ Hk
  iapply (step_send m K c _ (.inr 2) (dv10 c) (xfRows_eq (peer 2 c) (k0_off1_eq c 1)) (xgSlot_eq c (k0_off3_eq c)) (sem_send (.inr 2) rfl) (sem_recv (.inr 2) rfl)
    hS) $$ [HO S0 T0]
  · iframe HC S0 T0 HO
  iintro ⟨T0, HO⟩
  iapply (wp_cvt_w m K c 1 1 rfl rfl rfl rfl rfl rfl (sem_copy 1 rfl) (sem_copy 1 rfl) rfl (mayCp c 1 _)) $$ [HO HA Hst Hz Hx]
  · iframe HC HA Hst Hz HO Hx
  iintro ⟨HA, Hst, Hz, HO, Hx⟩
  iapply (own_start m c (k0_off6_eq c) (stSlot_eq 0 rfl) (sem_copy 0 rfl)) $$ [HX Hst Hz0]
  · iframe HX Hst Hz0
  iintro HF
  rw [wp_ret]
  imodintro
  iapply Hk
  iframe

end Cert.KProof
-- ==== Proof.Offs.lean ====
module

public import proofs.«01_k».proof.Proof.Start
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The offsets of step `q` -/

section Offsets
variable {i : grid0.Coords} {q : Fin 8} (hi : (i 0).val = q.val)
include hi

theorem o13 : k0_off13 i = ![ix (.inl (q, .lt))] := by
  have h := k0_off13_eq i
  rw [hi] at h
  exact h.trans (congrArg (fun n => ![n]) (by simp [ix, Kd.n]))
theorem o14 : k0_off14 i = ![512 * (0 : Fin 2).val, 1024 * q.val] := by
  have h := k0_off14_eq i
  rw [hi] at h
  exact h
theorem o15 : k0_off15 i = ![q.val, 512 * (0 : Fin 2).val, 0] := by
  have h := k0_off15_eq i
  rw [hi] at h
  exact h
theorem o16lb : k0_off16 i 8#32 = ![ix (.inl (q, .lb))] := by
  have h := k0_off16_eq i 0
  rw [hi] at h
  exact h.trans (congrArg (fun n => ![n]) (by simp [ix, Kd.n]; try omega))
theorem o16rb : k0_off16 i 16#32 = ![ix (.inl (q, .rb))] := by
  have h := k0_off16_eq i 1
  rw [hi] at h
  exact h.trans (congrArg (fun n => ![n]) (by simp [ix, Kd.n]; try omega))
theorem o16rt : k0_off16 i 24#32 = ![ix (.inl (q, .rt))] := by
  have h := k0_off16_eq i 2
  rw [hi] at h
  exact h.trans (congrArg (fun n => ![n]) (by simp [ix, Kd.n]; try omega))
theorem o16f : k0_off16 i 32#32 = ![ix (.inl (q, .f))] := by
  have h := k0_off16_eq i 3
  rw [hi] at h
  exact h.trans (congrArg (fun n => ![n]) (by simp [ix, Kd.n]; try omega))
theorem o16g : k0_off16 i 40#32 = ![ix (.inl (q, .g))] := by
  have h := k0_off16_eq i 4
  rw [hi] at h
  exact h.trans (congrArg (fun n => ![n]) (by simp [ix, Kd.n]; try omega))
theorem o17 : k0_off17 i = ![512 * (1 : Fin 2).val, 1024 * q.val] := by
  have h := k0_off17_eq i
  rw [hi] at h
  exact h
theorem o18 : k0_off18 i = ![q.val, 512 * (1 : Fin 2).val, 0] := by
  have h := k0_off18_eq i
  rw [hi] at h
  exact h
theorem o26 : k0_off26 i = ![0, 1024 * q.val] := by
  have h := k0_off26_eq i
  rw [hi] at h
  exact h
theorem o31 : k0_off31 i = ![q.val, 512 * (0 : Fin 2).val, 0] := by
  have h := k0_off31_eq i
  rw [hi] at h
  exact h
theorem o33 : k0_off33 i = ![q.val, 512 * (1 : Fin 2).val, 0] := by
  have h := k0_off33_eq i
  rw [hi] at h
  exact h
theorem o36 : k0_off36 i = ![q.val, 0, 0] := by
  have h := k0_off36_eq i
  rw [hi] at h
  exact h

variable {u : Fin 8} (hu : u.val = q.val + 1)
include hu

theorem o19 : k0_off19 i = ![ix (.inl (u, .lt))] := by
  have h := k0_off19_eq i
  rw [hi] at h
  exact h.trans (congrArg (fun n => ![n]) (by simp [ix, Kd.n]; omega))
theorem o22lb : k0_off22 i 8#32 = ![ix (.inl (u, .lb))] := by
  have h := k0_off22_eq i 0
  rw [hi] at h
  exact h.trans (congrArg (fun n => ![n]) (by simp [ix, Kd.n]; omega))
theorem o22rb : k0_off22 i 16#32 = ![ix (.inl (u, .rb))] := by
  have h := k0_off22_eq i 1
  rw [hi] at h
  exact h.trans (congrArg (fun n => ![n]) (by simp [ix, Kd.n]; omega))
theorem o22rt : k0_off22 i 24#32 = ![ix (.inl (u, .rt))] := by
  have h := k0_off22_eq i 2
  rw [hi] at h
  exact h.trans (congrArg (fun n => ![n]) (by simp [ix, Kd.n]; omega))
theorem o20 : k0_off20 i = ![u.val, 512 * (0 : Fin 2).val, 0] := by
  have h := k0_off20_eq i
  rw [hi] at h
  exact h.trans (by rw [hu]; rfl)
theorem o21 : k0_off21 i = ![512 * (0 : Fin 2).val, 1024 * u.val] := by
  have h := k0_off21_eq i
  rw [hi] at h
  exact h.trans (by rw [hu]; rfl)
theorem o23 : k0_off23 i = ![u.val, 512 * (1 : Fin 2).val, 0] := by
  have h := k0_off23_eq i
  rw [hi] at h
  exact h.trans (by rw [hu]; rfl)
theorem o24 : k0_off24 i = ![512 * (1 : Fin 2).val, 1024 * u.val] := by
  have h := k0_off24_eq i
  rw [hi] at h
  exact h.trans (by rw [hu]; rfl)
theorem o10 : k0_off10 i = ![0, 1024 * u.val] := by
  have h := k0_off10_eq i
  rw [hi] at h
  exact h.trans (by rw [hu]; rfl)
theorem o12 : k0_off12 i = ![0, 1024 * u.val] := by
  have h := k0_off12_eq i
  rw [hi] at h
  exact h.trans (by rw [hu]; rfl)

end Offsets

section Conds
variable {i : grid0.Coords} {q : Fin 8} (hi : (i 0).val = q.val)

theorem cond1_iff : ∀ i : grid0.Coords, (k0_cond1 i = 1#1 ↔ (i 0).val = 0) := by decide +kernel
theorem cond2_iff : ∀ i : grid0.Coords, (k0_cond2 i = 1#1 ↔ 1 ≤ (i 0).val ∧ (i 0).val < 7) := by decide +kernel
theorem cond3_iff : ∀ i : grid0.Coords, (k0_cond3 i = 1#1 ↔ (i 0).val < 7) := by decide +kernel
theorem cond4_iff : ∀ i : grid0.Coords, (k0_cond4 i = 1#1 ↔ (i 0).val = 0) := by decide +kernel
theorem cond5_iff : ∀ i : grid0.Coords, (k0_cond5 i = 1#1 ↔ (i 0).val = 0) := by decide +kernel

/-- The staging slot of a step. -/
def slotOf (i : grid0.Coords) : Fin 2 := ⟨(i 0).val % 2, Nat.mod_lt _ (by decide)⟩
theorem o8 : ∀ i : grid0.Coords, k0_off8 i = ![(slotOf i).val] := by decide +kernel
theorem o9 : ∀ i : grid0.Coords, k0_off9 i = ![(slotOf i).val, 0, 0] := by decide +kernel
theorem o11 : ∀ i : grid0.Coords, k0_off11 i = ![(slotOf i).val, 0, 0] := by decide +kernel
end Conds

end Cert.KProof
-- ==== Proof.Mid.lean ====
module

public import proofs.«01_k».proof.Proof.Offs
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The states of a tile -/

/-- What device `c` holds for the tile's second half of the way: the slots to come, and the two copies to pass on. -/
def later (c : Dev nD) (t : Fin 8) : sProp 𝕄 :=
  iprop(rcvI (F := F) c (.inl (t, .lt)) ∗ rcvI (F := F) c (.inl (t, .lb)) ∗ rcvI (F := F) c (.inl (t, .rb)) ∗ rcvI (F := F) c (.inl (t, .rt))
    ∗ sndI (F := F) c (.inl (t, .f)) ∗ sndI (F := F) c (.inl (t, .g)) ∗ rcvI (F := F) c (.inl (t, .f)) ∗ rcvI (F := F) c (.inl (t, .g)))
def snd4 (c : Dev nD) (t : Fin 8) : sProp 𝕄 :=
  iprop(sndI (F := F) c (.inl (t, .lt)) ∗ sndI (F := F) c (.inl (t, .lb)) ∗ sndI (F := F) c (.inl (t, .rb)) ∗ sndI (F := F) c (.inl (t, .rt)))
def snt4 (c : Dev nD) (t : Fin 8) : sProp 𝕄 :=
  iprop(sntI (F := F) c (.inl (t, .lt)) ∗ sntI (F := F) c (.inl (t, .lb)) ∗ sntI (F := F) c (.inl (t, .rb)) ∗ sntI (F := F) c (.inl (t, .rt)))
/-- Not yet rounded; rounded; its four copies in flight; all over. -/
def Unsent (c : Dev nD) (t : Fin 8) : sProp 𝕄 := iprop((∃ f, wfT c t fullShare f) ∗ snd4 (F := F) c t ∗ later (F := F) c t)
def Conv (c : Dev nD) (t : Fin 8) : sProp 𝕄 := iprop(wfT c t fullShare (WF m c) ∗ snd4 (F := F) c t ∗ later (F := F) c t)
def InFl (c : Dev nD) (t : Fin 8) : sProp 𝕄 := iprop(keepW m c t ∗ snt4 (F := F) c t ∗ later (F := F) c t)
/-- `P` of the next tile, if there is one. -/
def nx (q : Fin 8) (P : Fin 8 → sProp 𝕄) : sProp 𝕄 := if h : q.val + 1 < 8 then P ⟨q.val + 1, h⟩ else iprop(emp)

/-- The two nearer blocks of `x`: in flight, and landed. -/
def xFl (c : Dev nD) : sProp 𝕄 :=
  iprop(sntI (F := F) c (.inr 0) ∗ rcvI (F := F) c (.inr 0) ∗ sntI (F := F) c (.inr 1) ∗ rcvI (F := F) c (.inr 1))
def xDn (c : Dev nD) : sProp 𝕄 :=
  iprop((srcP m c (.inr 0) ∗ doneS (F := F) c (.inr 0)) ∗ (srcP m c (.inr 1) ∗ doneS (F := F) c (.inr 1)) ∗ xgR m c (peer 1 c) ∗ xgR m c (peer 0 c))
/-- The block from across: in flight, and landed. -/
def xFl2 (c : Dev nD) : sProp 𝕄 := iprop(sntI (F := F) c (.inr 2) ∗ rcvI (F := F) c (.inr 2))
def xDn2 (c : Dev nD) : sProp 𝕄 := iprop((srcP m c (.inr 2) ∗ doneS (F := F) c (.inr 2)) ∗ xgR m c (peer 2 c))

/-! ## The accumulator, step by step -/

def xgB (c d : Dev nD) : Vec F S1x1024x1024 .fp8e4m3 := (xgM.access (rXg d)).read (Elt F) (XG m c)
def wfB (c : Dev nD) (q : Fin 8) : Vec F S1024x1024 .fp8e4m3 := (wfM.access (rTile q)).read (Elt F) (WF m c)
def wlB (e : Dev nD) (q : Fin 8) (b : Fin 2) : Vec F S1x512x1024 .fp8e4m3 := (wlM.access (rHalf q b)).read (Elt F) (WT m e)
def wrB (e : Dev nD) (q : Fin 8) (b : Fin 2) : Vec F S1x512x1024 .fp8e4m3 := (wrM.access (rHalf q b)).read (Elt F) (WT m e)
theorem inb_tl (t : Fin 8) : ∀ a, (![t.val, 0, 0] : Fin 3 → ℕ) a + S1x1024x1024.size a ≤ S8x1024x1024.size a := by revert t; decide
abbrev rTl (t : Fin 8) : Rect S8x1024x1024 := Rect.unit (s := S8x1024x1024) ![t.val, 0, 0] S1x1024x1024.size (inb_tl t)
def wdB (e : Dev nD) (q : Fin 8) : Vec F S1x1024x1024 .fp8e4m3 := (wdM.access (rTl q)).read (Elt F) (WT m e)

def acc0 (c : Dev nD) (q : Fin 8) : FVec F S1024x1024 .f32 := k0_pay10 (xgB m c c) (wfB m c q)
def acc1 (c : Dev nD) (q : Fin 8) : FVec F S1024x1024 .f32 := k0_pay11 (acc0 m c q) (xgB m c (peer 1 c)) (wlB m (peer 1 c) q 0)
def acc2 (c : Dev nD) (q : Fin 8) : FVec F S1024x1024 .f32 := k0_pay13 (k0_pay12 (acc1 m c q)) (xgB m c (peer 0 c)) (wrB m (peer 0 c) q 1)
def acc3 (c : Dev nD) (q : Fin 8) : FVec F S1024x1024 .f32 :=
  k0_pay17 (k0_pay14 (acc2 m c q)) (k0_pay15 (xgB m c (peer 1 c))) (k0_pay16 (wlB m (peer 1 c) q 1))
def acc4 (c : Dev nD) (q : Fin 8) : FVec F S1024x1024 .f32 := k0_pay18 (acc3 m c q) (xgB m c (peer 0 c)) (wrB m (peer 0 c) q 0)
def acc5 (c : Dev nD) (q : Fin 8) : FVec F S1024x1024 .f32 := k0_pay1 (acc4 m c q) (xgB m c (peer 2 c)) (wdB m (peer 2 c) q)

/-! ## Two more steps -/

/-- A branch that only does something the other branch's state already has. -/
theorem wp_branch (c : Dev nD) {φ : Prop} [Decidable φ] {α : Type} {Q : α → sProp 𝕄} {A : φ → Prog (TpuEff nD τ sig (Elt F) Λ₀ .tc) α}
    {B : Prog (TpuEff nD τ sig (Elt F) Λ₀ .tc) α} {P R : sProp 𝕄}
    (hA : ∀ h : φ, P ⊢ iprop((R -∗ wp frame (wpE (defs₀ (F := F)) 𝒱₀ (c : Thread nD τ) none) Set.univ B Q) -∗ wp frame (wpE (defs₀ (F := F)) 𝒱₀ (c : Thread nD τ) none) Set.univ (A h) Q)) (hB : ¬φ → P ⊢ R) :
    P ⊢ iprop((R -∗ wp frame (wpE (defs₀ (F := F)) 𝒱₀ (c : Thread nD τ) none) Set.univ B Q) -∗ wp frame (wpE (defs₀ (F := F)) 𝒱₀ (c : Thread nD τ) none) Set.univ (if h : φ then A h else B) Q) := by
  by_cases h : φ
  · rw [dif_pos h]; exact hA h
  · rw [dif_neg h]
    have hR := hB h
    iintro HP Hk
    iapply Hk
    iapply hR
    iexact HP

/-- Both waits for one message. -/
theorem step_both (c : Dev nD) (j : Msg) {sm sm' : DmaSem sig} (hsm : sm = sS j) (hsm' : sm' = sR j) {s s' s2 s2' : Shape} {e e' e2 e2' : EltTy}
    {srcw : Memref sig .tc .vmem s' e'} {dstw : Memref sig .tc .vmem s e} (hN : dstw.view.dmaCredit = amt j)
    {srcw2 : Memref sig .tc .vmem s2' e2'} {dstw2 : Memref sig .tc .vmem s2 e2} (hN2 : dstw2.view.dmaCredit = amt j)
    {p1 : srcw.view.WordExact} {p2 : dstw.view.WordExact} {p3 : srcw2.view.WordExact} {p4 : dstw2.view.WordExact}
    {α : Type} {Q : α → sProp 𝕄} {k : PUnit → Prog (TpuEff nD τ sig (Elt F) Λ₀ .tc) α} {S : Finset Msg} (hS : ∀ x ∈ S, lvl j < lvl x) :
    iprop(Ctx m K ∗ sntI (F := F) c j ∗ rcvI (F := F) c j ∗ owesE (F := F) c (Ow S c))
      ⊢ iprop((((srcP m c j ∗ doneS (F := F) c j) ∗ dstP m c j ∗ owesE (F := F) c (Ow S c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw p1 p2) fun _ => .op (.waitDma2 sm' srcw2 dstw2 p3 p4) k) Q) := by
  unfold doneS
  iintro ⟨#HC, Hs, Hr, HO⟩ Hk
  iapply (step_sent m K c j hsm hN) $$ [Hs HO]
  · iframe HC Hs HO
  iintro ⟨Hs, Hz, HO⟩
  iapply (step_recv m K c j hsm' hN2 hS) $$ [Hr HO]
  · iframe HC Hr HO
  iintro ⟨Hd, Hz', HO⟩
  iapply Hk
  iframe

/-! ## The parts of a step -/

theorem part9_spec (i : grid0.Coords) (q : Fin 8) (hi : (i 0).val = q.val) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (arg0 v5 v7 : BitVec 32) {Q : PUnit → sProp 𝕄} :
    iprop(Ctx m K ∗ owesE (F := F) c (Ow (pend q.val) c) ∗ rcvI (F := F) c (.inl (q, .lt)) ∗ sndI (F := F) c (.inl (q, .f))
        ∗ sntI (F := F) c (.inl (q, .rb)) ∗ rcvI (F := F) c (.inl (q, .rb)))
      ⊢ iprop(((owesE (F := F) c (Ow ((pend q.val).erase (.inl (q, .f))) c) ∗ keepF m c q ∗ semVal (recvC c (.inl (q, .lt))) 0 ∗ sntI (F := F) c (.inl (q, .f))
            ∗ (srcP m c (.inl (q, .rb)) ∗ doneS (F := F) c (.inl (q, .rb))) ∗ keepG m c q ∗ srcP m c (.inl (q, .g))) -∗ Q ⟨⟩)
          -∗ wp frame (wpE (defs₀ (F := F)) 𝒱₀ (c : Thread nD τ) none) Set.univ (k0_part9_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 arg0 c v5 v7) Q) := by
  unfold k0_part9_skel
  simp only [Prog.lift, Prog.bind_op, Prog.bind_ret, Prog.pure_eq_ret]
  iintro ⟨#HC, HO, R0, T0, T1, R1⟩ Hk
  iapply (step_recv m K c (.inl (q, .lt)) (sem_recv (.inl (q, .lt)) (o13 hi)) ?_
    (fun j hj => lt_of_le_of_lt (le_refl _) (lvl_late q.val j hj))) $$ [R0 HO]
  · rfl
  · iframe HC R0 HO
  rw [f_shares]
  iintro ⟨⟨HF, S0⟩, Z0, HO⟩
  iapply (step_send m K c _ (.inl (q, .f)) (dv11 c) (half_eq wlM q 0 (o15 hi)) (half_eq wdM q 0 (o15 hi)) (sem_send (.inl (q, .f)) (o16f hi)) (sem_recv (.inl (q, .f)) (o16f hi))
    (mem_pend_f q)) $$ [HO S0 T0]
  · iframe HC S0 T0 HO
  iintro ⟨T0, HO⟩
  iapply (step_both m K c (.inl (q, .rb)) (sem_send (.inl (q, .rb)) (o16rb hi)) (sem_recv (.inl (q, .rb)) (o16rb hi)) ?_ ?_
    (fun j hj => lt_of_le_of_lt (le_refl _) (lvl_late q.val j (Finset.mem_of_mem_erase hj)))) $$ [T1 R1 HO]
  · rfl
  · rfl
  · iframe HC T1 R1 HO
  rw [g_shares]
  iintro ⟨S1, ⟨HG, S2⟩, HO⟩
  rw [wp_ret]
  imodintro
  iapply Hk
  iframe

theorem part7_spec (i : grid0.Coords) (q u : Fin 8) (hi : (i 0).val = q.val) (hu : u.val = q.val + 1) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (arg0 v5 v7 : BitVec 32) (h3 : k0_cond3 i = 1#1)
    {Q : (Σ' (_ : BitVec 32), BitVec 32) → sProp 𝕄} :
    iprop(Ctx m K ∗ owesE (F := F) c (Ow (sentFG q) c)
        ∗ srcP m c (.inl (u, .lt)) ∗ sndI (F := F) c (.inl (u, .lt)) ∗ srcP m c (.inl (u, .lb)) ∗ sndI (F := F) c (.inl (u, .lb))
        ∗ srcP m c (.inl (u, .rb)) ∗ sndI (F := F) c (.inl (u, .rb)))
      ⊢ iprop((∀ v, (owesE (F := F) c (Ow ((((sentFG q).erase (.inl (u, .lt))).erase (.inl (u, .lb))).erase (.inl (u, .rb))) c)
            ∗ sntI (F := F) c (.inl (u, .lt)) ∗ sntI (F := F) c (.inl (u, .lb)) ∗ sntI (F := F) c (.inl (u, .rb))) -∗ Q v)
          -∗ wp frame (wpE (defs₀ (F := F)) 𝒱₀ (c : Thread nD τ) none) Set.univ (k0_part7_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 arg0 c v5 v7 h3) Q) := by
  unfold k0_part7_skel
  simp only [Prog.lift, Prog.bind_op, Prog.bind_ret, Prog.pure_eq_ret]
  iintro ⟨#HC, HO, S0, T0, S1, T1, S2, T2⟩ Hk
  iapply (step_send m K c _ (.inl (u, .lt)) (dv13 c) (wfHalf_eq u 0 (o21 hi hu)) (half_eq wlM u 0 (o20 hi hu)) (sem_send (.inl (u, .lt)) (o19 hi hu)) (sem_recv (.inl (u, .lt)) (o19 hi hu))
    (mem_fg_lt q u hu)) $$ [HO S0 T0]
  · iframe HC S0 T0 HO
  iintro ⟨T0, HO⟩
  iapply (step_send m K c _ (.inl (u, .lb)) (dv14 c) (wfHalf_eq u 1 (o24 hi hu)) (half_eq wlM u 1 (o23 hi hu)) (sem_send (.inl (u, .lb)) (o22lb hi hu)) (sem_recv (.inl (u, .lb)) (o22lb hi hu))
    (mem_fg_lb q u hu)) $$ [HO S1 T1]
  · iframe HC S1 T1 HO
  iintro ⟨T1, HO⟩
  iapply (step_send m K c _ (.inl (u, .rb)) (dv15 c) (wfHalf_eq u 1 (o24 hi hu)) (half_eq wrM u 1 (o23 hi hu)) (sem_send (.inl (u, .rb)) (o22rb hi hu)) (sem_recv (.inl (u, .rb)) (o22rb hi hu))
    (mem_fg_rb q u hu)) $$ [HO S2 T2]
  · iframe HC S2 T2 HO
  iintro ⟨T2, HO⟩
  rw [wp_ret]
  imodintro
  iapply Hk
  iframe

end Cert.KProof
-- ==== Proof.Loads.lean ====
module

public import proofs.«01_k».proof.Proof.Mid
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## Loads of what a step reads -/

theorem hz0 : (![0, 0] : Fin 2 → ℕ) = fun _ => 0 := funext fun a => by fin_cases a <;> rfl

theorem d_lb (c : Dev nD) (t : Fin 8) : dstP m c (.inl (t, .lb))
    = ((half wlM t 1).view.loc (c : Thread nD τ) ↦[(half wlM t 1).view.set]{fullShare} WT m (peer 1 c) : sProp 𝕄) := rfl
theorem d_rt (c : Dev nD) (t : Fin 8) : dstP m c (.inl (t, .rt))
    = ((half wrM t 0).view.loc (c : Thread nD τ) ↦[(half wrM t 0).view.set]{fullShare} WT m (peer 0 c) : sProp 𝕄) := rfl
theorem d_f (c : Dev nD) (t : Fin 8) : dstP m c (.inl (t, .f))
    = ((half wdM t 0).view.loc (c : Thread nD τ) ↦[(half wdM t 0).view.set]{fullShare} WT m (peer 2 c) : sProp 𝕄) := rfl
theorem d_g (c : Dev nD) (t : Fin 8) : dstP m c (.inl (t, .g))
    = ((half wdM t 1).view.loc (c : Thread nD τ) ↦[(half wdM t 1).view.set]{fullShare} WT m (peer 2 c) : sProp 𝕄) := rfl

theorem load_xg (c d : Dev nD) {off : Fin 3 → ℕ} (ho : off = ![d.val, 0, 0]) {inb hl} {α : Type} {Q : α → sProp 𝕄} {k : Vec F S1x1024x1024 .fp8e4m3 → Prog (TpuEff nD τ sig (Elt F) Λ₀ .tc) α} :
    xgR m c d ⊢ iprop((xgR m c d -∗ wp frame (wpE (defs₀ (F := F)) 𝒱₀ (c : Thread nD τ) none) Set.univ (k (xgB m c d)) Q)
      -∗ wp frame (wpE (defs₀ (F := F)) 𝒱₀ (c : Thread nD τ) none) Set.univ (.op (.load xgM (Rect.unit (s := S4x1024x1024) off S1x1024x1024.size inb).toLoadRect hl) k) Q) := by
  unfold xgR xgB
  exact step_load_xg c d ho fullShare (XG m c)
theorem load_wf (c : Dev nD) (t : Fin 8) {off : Fin 2 → ℕ} (ho : off = ![0, 1024 * t.val]) {inb hl} {α : Type} {Q : α → sProp 𝕄} {k : Vec F S1024x1024 .fp8e4m3 → Prog (TpuEff nD τ sig (Elt F) Λ₀ .tc) α} :
    keepW m c t ⊢ iprop((keepW m c t -∗ wp frame (wpE (defs₀ (F := F)) 𝒱₀ (c : Thread nD τ) none) Set.univ (k (wfB m c t)) Q)
      -∗ wp frame (wpE (defs₀ (F := F)) 𝒱₀ (c : Thread nD τ) none) Set.univ (.op (.load wfM (Rect.unit (s := S1024x8192) off S1024x1024.size inb).toLoadRect hl) k) Q) := by
  unfold keepW wfB
  exact step_load_wf c t ho fullShare.left (WF m c)
theorem load_lt (c : Dev nD) (t : Fin 8) {off : Fin 3 → ℕ} (ho : off = ![t.val, 512 * (0 : Fin 2).val, 0]) {inb hl} {α : Type} {Q : α → sProp 𝕄} {k : Vec F S1x512x1024 .fp8e4m3 → Prog (TpuEff nD τ sig (Elt F) Λ₀ .tc) α} :
    keepF m c t ⊢ iprop((keepF m c t -∗ wp frame (wpE (defs₀ (F := F)) 𝒱₀ (c : Thread nD τ) none) Set.univ (k (wlB m (peer 1 c) t 0)) Q)
      -∗ wp frame (wpE (defs₀ (F := F)) 𝒱₀ (c : Thread nD τ) none) Set.univ (.op (.load wlM (Rect.unit (s := S8x1024x1024) off S1x512x1024.size inb).toLoadRect hl) k) Q) := by
  unfold keepF wlB
  exact step_load_half c wlM t 0 ho _ (WT m (peer 1 c))
theorem load_lb (c : Dev nD) (t : Fin 8) {off : Fin 3 → ℕ} (ho : off = ![t.val, 512 * (1 : Fin 2).val, 0]) {inb hl} {α : Type} {Q : α → sProp 𝕄} {k : Vec F S1x512x1024 .fp8e4m3 → Prog (TpuEff nD τ sig (Elt F) Λ₀ .tc) α} :
    dstP m c (.inl (t, .lb)) ⊢ iprop((dstP m c (.inl (t, .lb)) -∗ wp frame (wpE (defs₀ (F := F)) 𝒱₀ (c : Thread nD τ) none) Set.univ (k (wlB m (peer 1 c) t 1)) Q)
      -∗ wp frame (wpE (defs₀ (F := F)) 𝒱₀ (c : Thread nD τ) none) Set.univ (.op (.load wlM (Rect.unit (s := S8x1024x1024) off S1x512x1024.size inb).toLoadRect hl) k) Q) := by
  rw [d_lb]; unfold wlB
  exact step_load_half c wlM t 1 ho _ (WT m (peer 1 c))
theorem load_rb (c : Dev nD) (t : Fin 8) {off : Fin 3 → ℕ} (ho : off = ![t.val, 512 * (1 : Fin 2).val, 0]) {inb hl} {α : Type} {Q : α → sProp 𝕄} {k : Vec F S1x512x1024 .fp8e4m3 → Prog (TpuEff nD τ sig (Elt F) Λ₀ .tc) α} :
    keepG m c t ⊢ iprop((keepG m c t -∗ wp frame (wpE (defs₀ (F := F)) 𝒱₀ (c : Thread nD τ) none) Set.univ (k (wrB m (peer 0 c) t 1)) Q)
      -∗ wp frame (wpE (defs₀ (F := F)) 𝒱₀ (c : Thread nD τ) none) Set.univ (.op (.load wrM (Rect.unit (s := S8x1024x1024) off S1x512x1024.size inb).toLoadRect hl) k) Q) := by
  unfold keepG wrB
  exact step_load_half c wrM t 1 ho _ (WT m (peer 0 c))
theorem load_rt (c : Dev nD) (t : Fin 8) {off : Fin 3 → ℕ} (ho : off = ![t.val, 512 * (0 : Fin 2).val, 0]) {inb hl} {α : Type} {Q : α → sProp 𝕄} {k : Vec F S1x512x1024 .fp8e4m3 → Prog (TpuEff nD τ sig (Elt F) Λ₀ .tc) α} :
    dstP m c (.inl (t, .rt)) ⊢ iprop((dstP m c (.inl (t, .rt)) -∗ wp frame (wpE (defs₀ (F := F)) 𝒱₀ (c : Thread nD τ) none) Set.univ (k (wrB m (peer 0 c) t 0)) Q)
      -∗ wp frame (wpE (defs₀ (F := F)) 𝒱₀ (c : Thread nD τ) none) Set.univ (.op (.load wrM (Rect.unit (s := S8x1024x1024) off S1x512x1024.size inb).toLoadRect hl) k) Q) := by
  rw [d_rt]; unfold wrB
  exact step_load_half c wrM t 0 ho _ (WT m (peer 0 c))

theorem tl_halves (t : Fin 8) : (rTl t).set = (rHalf t 0).set ∪ (rHalf t 1).set := by
  ext i
  simp only [Finset.mem_union, Rect.mem_set_unit, Fin.forall_fin_succ, Fin.forall_fin_two]
  have h1 : (i 1).val < 1024 := (i 1).isLt
  simp
  omega
theorem tl_disjoint (t : Fin 8) : Disjoint (rHalf t 0).set (rHalf t 1).set := by
  rw [Finset.disjoint_left]
  intro i h0 h1
  have a := (Rect.mem_set_unit.mp h0) 1
  have b := (Rect.mem_set_unit.mp h1) 1
  simp at a b
  omega
/-- The whole tile from across: its two halves, from either side. -/
theorem wd_join (c : Dev nD) (t : Fin 8) : iprop(dstP m c (.inl (t, .f)) ∗ dstP m c (.inl (t, .g)))
    = ((c : Thread nD τ).loc cc0_scratch3 ↦[(rTl t).set]{fullShare} WT m (peer 2 c) : sProp 𝕄) := by
  have e0 : (half wdM t 0).view.set = (rHalf t 0).set := (Memref.set_view_squeeze ..).trans (View.set_slice_whole _ _)
  have e1 : (half wdM t 1).view.set = (rHalf t 1).set := (Memref.set_view_squeeze ..).trans (View.set_slice_whole _ _)
  have h := pts_union (F := F) (ℓ := (c : Thread nD τ).loc cc0_scratch3) (tl_disjoint t) fullShare (WT m (peer 2 c))
  rw [d_f, d_g, tl_halves, h, e0, e1]
theorem load_wd (c : Dev nD) (t : Fin 8) {off : Fin 3 → ℕ} (ho : off = ![t.val, 0, 0]) {inb hl} {α : Type} {Q : α → sProp 𝕄} {k : Vec F S1x1024x1024 .fp8e4m3 → Prog (TpuEff nD τ sig (Elt F) Λ₀ .tc) α} :
    iprop(dstP m c (.inl (t, .f)) ∗ dstP m c (.inl (t, .g))) ⊢ iprop(((dstP m c (.inl (t, .f)) ∗ dstP m c (.inl (t, .g))) -∗ wp frame (wpE (defs₀ (F := F)) 𝒱₀ (c : Thread nD τ) none) Set.univ (k (wdB m (peer 2 c) t)) Q)
      -∗ wp frame (wpE (defs₀ (F := F)) 𝒱₀ (c : Thread nD τ) none) Set.univ (.op (.load wdM (Rect.unit (s := S8x1024x1024) off S1x1024x1024.size inb).toLoadRect hl) k) Q) := by
  subst ho
  rw [wd_join]
  unfold wdB
  iintro H Hk
  iapply (wp_load_rect 𝒱₀ (c : Thread nD τ) none Set.univ (m := wdM) (r := rTl t) (S := (rTl t).set)
    (by rw [View.set_slice_whole])) $$ H
  iexact Hk

end Cert.KProof
-- ==== Proof.Parts.lean ====
module

public import proofs.«01_k».proof.Proof.Loads
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- What a step reads at the end of its turn is below everything still owed. -/
theorem lvl_next (q : Fin 8) (i : Msg) (hi : lvl i ≤ 7 + 4 * q.val) : ∀ j ∈ pend (q.val + 1), lvl i < lvl j := fun j hj => by
  have := lvl_late _ j hj
  omega
theorem lvl_x (q : Fin 8) (d : Fin 3) : lvl (.inr d) ≤ 7 + 4 * q.val := by
  have h : lvl (.inr d) ≤ 7 := by revert d; decide
  omega
theorem lvl_w (q : Fin 8) (k : Kd) : lvl (.inl (q, k)) ≤ 7 + 4 * q.val := by cases k <;> simp [lvl] <;> omega

/-- The state of the nearer, and of the farther, blocks of `x` when step `q` begins. -/
def xSt (c : Dev nD) (q : Fin 8) : sProp 𝕄 := if q.val = 0 then xFl (F := F) c else xDn m c
def xSt2 (c : Dev nD) (q : Fin 8) : sProp 𝕄 := if q.val = 0 then xFl2 (F := F) c else xDn2 m c

theorem nx_pos (q : Fin 8) (P : Fin 8 → sProp 𝕄) (h : q.val + 1 < 8) : nx q P = P ⟨q.val + 1, h⟩ := dif_pos h
theorem nx_neg (q : Fin 8) (P : Fin 8 → sProp 𝕄) (h : ¬q.val + 1 < 8) : nx q P = iprop(emp) := dif_neg h

theorem part10_spec (i : grid0.Coords) (q : Fin 8) (hi : (i 0).val = q.val) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (arg0 v2 v5 v7 : BitVec 32) {Q : FVec F S1024x1024 .f32 → sProp 𝕄} :
    iprop(Ctx m K ∗ owesE (F := F) c (Ow ((pend q.val).erase (.inl (q, .f))) c) ∗ srcP m c (.inl (q, .g)) ∗ sndI (F := F) c (.inl (q, .g))
        ∗ nx q (Conv m c) ∗ xgR m c c ∗ keepW m c q ∗ xSt m c q ∗ keepF m c q ∗ (∃ X, owns (c : Thread nD τ) arg5 fullShare X))
      ⊢ iprop(((owesE (F := F) c (Ow (pend (q.val + 1)) c) ∗ sntI (F := F) c (.inl (q, .g))
            ∗ nx q (InFl m c) ∗ xgR m c c ∗ keepW m c q ∗ xDn m c ∗ keepF m c q ∗ owns (c : Thread nD τ) arg5 fullShare (acc1 m c q)) -∗ Q (k0_pay12 (acc1 m c q)))
          -∗ wp frame (wpE (defs₀ (F := F)) 𝒱₀ (c : Thread nD τ) none) Set.univ (k0_part10_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 arg0 c v2 v5 v7) Q) := by
  unfold k0_part10_skel
  simp only [Prog.lift, Prog.bind_op, Prog.bind_ret, Prog.pure_eq_ret]
  iintro ⟨#HC, HO, S1, T1, HN, Hx, HW, HX, HF, ⟨%X, Ho⟩⟩ Hk
  iapply (step_send m K c _ (.inl (q, .g)) (dv12 c) (half_eq wrM q 1 (o18 hi)) (half_eq wdM q 1 (o18 hi)) (sem_send (.inl (q, .g)) (o16g hi)) (sem_recv (.inl (q, .g)) (o16g hi))
    (mem_pend_g q)) $$ [HO S1 T1]
  · iframe HC S1 T1 HO
  iintro ⟨T1, HO⟩
  iapply (wp_branch c (P := iprop(Ctx m K ∗ owesE (F := F) c (Ow (sentFG q) c) ∗ nx q (Conv m c)))
    (R := iprop(owesE (F := F) c (Ow (pend (q.val + 1)) c) ∗ nx q (InFl m c))) ?_ ?_) $$ [HO HN]
  · intro h3
    have hq : q.val + 1 < 8 := by have := (cond3_iff i).mp h3; omega
    simp only [wp_bind]
    rw [nx_pos q _ hq, nx_pos q _ hq, k0_part7_eq_skeleton]
    unfold Conv snd4
    rw [wf_shares]
    iintro ⟨#HC, HO, ⟨HW, S0, S1, S2, S3⟩, ⟨T0, T1, T2, T3⟩, HL⟩ Hk
    iapply (part7_spec m K i q ⟨q.val + 1, hq⟩ hi rfl c arg3 harg3 arg4 harg4 arg5 harg5 arg0 v5 v7 h3) $$ [HO S0 T0 S1 T1 S2 T2]
    · iframe HC HO S0 T0 S1 T1 S2 T2
    iintro %v ⟨HO, T0, T1, T2⟩
    iapply (step_send m K c _ (.inl (⟨q.val + 1, hq⟩, .rt)) (dv16 c) (wfHalf_eq ⟨q.val + 1, hq⟩ 0 (o21 hi rfl)) (half_eq wrM ⟨q.val + 1, hq⟩ 0 (o20 hi rfl))
      (sem_send (.inl (⟨q.val + 1, hq⟩, .rt)) (o22rt hi rfl)) (sem_recv (.inl (⟨q.val + 1, hq⟩, .rt)) (o22rt hi rfl)) (mem_fg_rt q ⟨q.val + 1, hq⟩ rfl)) $$ [HO S3 T3]
    · iframe HC S3 T3 HO
    have hp := pend_succ q ⟨q.val + 1, hq⟩ rfl
    dsimp only [sent4] at hp
    rw [hp]
    iintro ⟨T3, HO⟩
    iapply Hk
    unfold InFl snt4
    iframe
  · intro h3
    have hq : ¬q.val + 1 < 8 := fun h => h3 ((cond3_iff i).mpr (by omega))
    have e : q = 7 := Fin.ext (by have := q.isLt; show q.val = 7; omega)
    rw [nx_neg q _ hq, nx_neg q _ hq, e, pend_end]
    iintro ⟨-, HO, -⟩
    iframe HO
  · iframe HC HO HN
  iintro ⟨HO, HN⟩
  iapply (load_xg m c c (k0_off25_eq c)) $$ Hx; iintro Hx
  iapply (load_wf m c q (o26 hi)) $$ HW; iintro HW
  iapply (step_load c harg5 hz0 fullShare X) $$ Ho; iintro Ho
  iapply (step_store c harg5 hz0 X _) $$ Ho; iintro Ho
  iapply (wp_branch c (P := iprop(Ctx m K ∗ owesE (F := F) c (Ow (pend (q.val + 1)) c) ∗ xSt m c q))
    (R := iprop(owesE (F := F) c (Ow (pend (q.val + 1)) c) ∗ xDn m c)) ?_ ?_) $$ [HO HX]
  · intro h4
    have hq : q.val = 0 := hi ▸ (cond4_iff i).mp h4
    unfold xSt xFl xDn
    rw [if_pos hq]
    iintro ⟨#HC, HO, T0, R0, T1, R1⟩ Hk
    iapply (step_both m K c (.inr 0) (sem_send (.inr 0) rfl) (sem_recv (.inr 0) rfl) ?_ ?_ (lvl_next q _ (lvl_x q 0))) $$ [T0 R0 HO]
    · rfl
    · rfl
    · iframe HC T0 R0 HO
    rw [show dstP m c (.inr 0) = xgR m c (peer 1 c) from rfl]
    iintro ⟨S0, D0, HO⟩
    iapply (step_both m K c (.inr 1) (sem_send (.inr 1) rfl) (sem_recv (.inr 1) rfl) ?_ ?_ (lvl_next q _ (lvl_x q 1))) $$ [T1 R1 HO]
    · rfl
    · rfl
    · iframe HC T1 R1 HO
    rw [show dstP m c (.inr 1) = xgR m c (peer 0 c) from rfl]
    iintro ⟨S1, D1, HO⟩
    iapply Hk
    iframe
  · intro h4
    unfold xSt
    rw [if_neg fun h => h4 ((cond4_iff i).mpr (hi.trans h))]
    iintro ⟨-, HO, HX⟩
    iframe
  · iframe HC HO HX
  unfold xDn
  iintro ⟨HO, HX0, HX1, HL, HR⟩
  iapply (step_load c harg5 hz0 fullShare _) $$ Ho; iintro Ho
  iapply (load_xg m c (peer 1 c) (k0_off30_eq c)) $$ HL; iintro HL
  iapply (load_lt m c q (o31 hi)) $$ HF; iintro HF
  iapply (step_load c harg5 hz0 fullShare _) $$ Ho; iintro Ho
  iapply (step_store c harg5 hz0 _ _) $$ Ho; iintro Ho
  iapply (step_load c harg5 hz0 fullShare _) $$ Ho; iintro Ho
  rw [wp_ret]
  imodintro
  unfold acc1 acc0
  iapply Hk
  iframe

theorem part11_spec (i : grid0.Coords) (q : Fin 8) (hi : (i 0).val = q.val) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (arg0 v5 v7 : BitVec 32)
    {Q : (Σ' (_ : FVec F S1024x1024 .f32) (_ : FVec F S1024x512 .fp8e4m3), FVec F S512x1024 .fp8e4m3) → sProp 𝕄} :
    iprop(Ctx m K ∗ owesE (F := F) c (Ow (pend (q.val + 1)) c) ∗ xgR m c (peer 0 c) ∗ keepG m c q ∗ sntI (F := F) c (.inl (q, .lb)) ∗ rcvI (F := F) c (.inl (q, .lb))
        ∗ xgR m c (peer 1 c) ∗ (∃ X, owns (c : Thread nD τ) arg5 fullShare X))
      ⊢ iprop(((owesE (F := F) c (Ow (pend (q.val + 1)) c) ∗ xgR m c (peer 0 c) ∗ keepG m c q ∗ (srcP m c (.inl (q, .lb)) ∗ doneS (F := F) c (.inl (q, .lb)))
            ∗ dstP m c (.inl (q, .lb)) ∗ xgR m c (peer 1 c) ∗ owns (c : Thread nD τ) arg5 fullShare (acc2 m c q))
              -∗ Q ⟨k0_pay14 (acc2 m c q), k0_pay15 (xgB m c (peer 1 c)), k0_pay16 (wlB m (peer 1 c) q 1)⟩)
          -∗ wp frame (wpE (defs₀ (F := F)) 𝒱₀ (c : Thread nD τ) none) Set.univ (k0_part11_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 arg0 c v5 v7 (k0_pay12 (acc1 m c q))) Q) := by
  unfold k0_part11_skel
  simp only [Prog.lift, Prog.bind_op, Prog.bind_ret, Prog.pure_eq_ret]
  iintro ⟨#HC, HO, HR, HG, T0, R0, HL, ⟨%X, Ho⟩⟩ Hk
  iapply (load_xg m c (peer 0 c) (k0_off32_eq c 0)) $$ HR; iintro HR
  iapply (load_rb m c q (o33 hi)) $$ HG; iintro HG
  iapply (step_load c harg5 hz0 fullShare X) $$ Ho; iintro Ho
  iapply (step_store c harg5 hz0 X _) $$ Ho; iintro Ho
  iapply (step_both m K c (.inl (q, .lb)) (sem_send (.inl (q, .lb)) (o16lb hi)) (sem_recv (.inl (q, .lb)) (o16lb hi)) ?_ ?_ (lvl_next q _ (lvl_w q _))) $$ [T0 R0 HO]
  · rfl
  · rfl
  · iframe HC T0 R0 HO
  iintro ⟨S0, D0, HO⟩
  iapply (step_load c harg5 hz0 fullShare _) $$ Ho; iintro Ho
  iapply (load_xg m c (peer 1 c) (k0_off30_eq c)) $$ HL; iintro HL
  iapply (load_lb m c q (o33 hi)) $$ D0; iintro D0
  rw [wp_ret]
  imodintro
  unfold acc2
  iapply Hk
  iframe

theorem part12_spec (i : grid0.Coords) (q : Fin 8) (hi : (i 0).val = q.val) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (arg0 v5 v7 : BitVec 32)
    {Q : (Σ' (_ : BitVec 32), BitVec 32) → sProp 𝕄} :
    iprop(Ctx m K ∗ owesE (F := F) c (Ow (pend (q.val + 1)) c) ∗ sntI (F := F) c (.inl (q, .rt)) ∗ rcvI (F := F) c (.inl (q, .rt))
        ∗ xgR m c (peer 0 c) ∗ (∃ X, owns (c : Thread nD τ) arg5 fullShare X))
      ⊢ iprop((∀ v, (owesE (F := F) c (Ow (pend (q.val + 1)) c) ∗ (srcP m c (.inl (q, .rt)) ∗ doneS (F := F) c (.inl (q, .rt)))
            ∗ dstP m c (.inl (q, .rt)) ∗ xgR m c (peer 0 c) ∗ owns (c : Thread nD τ) arg5 fullShare (acc4 m c q)) -∗ Q v)
          -∗ wp frame (wpE (defs₀ (F := F)) 𝒱₀ (c : Thread nD τ) none) Set.univ (k0_part12_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 arg0 c v5 v7 (k0_pay14 (acc2 m c q)) (k0_pay15 (xgB m c (peer 1 c))) (k0_pay16 (wlB m (peer 1 c) q 1))) Q) := by
  unfold k0_part12_skel
  simp only [Prog.lift, Prog.bind_op, Prog.bind_ret, Prog.pure_eq_ret]
  iintro ⟨#HC, HO, T0, R0, HR, ⟨%X, Ho⟩⟩ Hk
  iapply (step_load c harg5 hz0 fullShare X) $$ Ho; iintro Ho
  iapply (step_store c harg5 hz0 X _) $$ Ho; iintro Ho
  iapply (step_both m K c (.inl (q, .rt)) (sem_send (.inl (q, .rt)) (o16rt hi)) (sem_recv (.inl (q, .rt)) (o16rt hi)) ?_ ?_ (lvl_next q _ (lvl_w q _))) $$ [T0 R0 HO]
  · rfl
  · rfl
  · iframe HC T0 R0 HO
  iintro ⟨S0, D0, HO⟩
  iapply (step_load c harg5 hz0 fullShare _) $$ Ho; iintro Ho
  iapply (load_xg m c (peer 0 c) (k0_off32_eq c 0)) $$ HR; iintro HR
  iapply (load_rt m c q (o31 hi)) $$ D0; iintro D0
  iapply (step_load c harg5 hz0 fullShare _) $$ Ho; iintro Ho
  iapply (step_store c harg5 hz0 _ _) $$ Ho; iintro Ho
  rw [wp_ret]
  imodintro
  unfold acc4 acc3
  iapply Hk
  iframe

theorem part13_spec (i : grid0.Coords) (q : Fin 8) (hi : (i 0).val = q.val) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (arg0 v5 v7 v9 v158 c0 : BitVec 32) {Q : PUnit → sProp 𝕄} :
    iprop(Ctx m K ∗ owesE (F := F) c (Ow (pend (q.val + 1)) c) ∗ xSt2 m c q ∗ sntI (F := F) c (.inl (q, .f)) ∗ rcvI (F := F) c (.inl (q, .f))
        ∗ sntI (F := F) c (.inl (q, .g)) ∗ rcvI (F := F) c (.inl (q, .g)))
      ⊢ iprop(((owesE (F := F) c (Ow (pend (q.val + 1)) c) ∗ xDn2 m c ∗ (srcP m c (.inl (q, .f)) ∗ doneS (F := F) c (.inl (q, .f)))
            ∗ dstP m c (.inl (q, .f)) ∗ (srcP m c (.inl (q, .g)) ∗ doneS (F := F) c (.inl (q, .g))) ∗ dstP m c (.inl (q, .g))) -∗ Q ⟨⟩)
          -∗ wp frame (wpE (defs₀ (F := F)) 𝒱₀ (c : Thread nD τ) none) Set.univ (k0_part13_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 arg0 c v5 v7 v9 v158 c0) Q) := by
  unfold k0_part13_skel
  simp only [Prog.lift, Prog.bind_op, Prog.bind_ret, Prog.pure_eq_ret]
  iintro ⟨#HC, HO, HX, T0, R0, T1, R1⟩ Hk
  iapply (wp_branch c (P := iprop(Ctx m K ∗ owesE (F := F) c (Ow (pend (q.val + 1)) c) ∗ xSt2 m c q))
    (R := iprop(owesE (F := F) c (Ow (pend (q.val + 1)) c) ∗ xDn2 m c)) ?_ ?_) $$ [HO HX]
  · intro h5
    have hq : q.val = 0 := hi ▸ (cond5_iff i).mp h5
    unfold xSt2 xFl2 xDn2
    rw [if_pos hq]
    iintro ⟨#HC, HO, T0, R0⟩ Hk
    iapply (step_both m K c (.inr 2) (sem_send (.inr 2) rfl) (sem_recv (.inr 2) rfl) ?_ ?_ (lvl_next q _ (lvl_x q 2))) $$ [T0 R0 HO]
    · rfl
    · rfl
    · iframe HC T0 R0 HO
    rw [show dstP m c (.inr 2) = xgR m c (peer 2 c) from rfl]
    iintro ⟨S0, D0, HO⟩
    iapply Hk
    iframe
  · intro h5
    unfold xSt2
    rw [if_neg fun h => h5 ((cond5_iff i).mpr (hi.trans h))]
    iintro ⟨-, HO, HX⟩
    iframe
  · iframe HC HO HX
  iintro ⟨HO, HX⟩
  iapply (step_both m K c (.inl (q, .f)) (sem_send (.inl (q, .f)) (o16f hi)) (sem_recv (.inl (q, .f)) (o16f hi)) ?_ ?_ (lvl_next q _ (lvl_w q _))) $$ [T0 R0 HO]
  · rfl
  · rfl
  · iframe HC T0 R0 HO
  iintro ⟨S0, D0, HO⟩
  iapply (step_both m K c (.inl (q, .g)) (sem_send (.inl (q, .g)) (o16g hi)) (sem_recv (.inl (q, .g)) (o16g hi)) ?_ ?_ (lvl_next q _ (lvl_w q _))) $$ [T1 R1 HO]
  · rfl
  · rfl
  · iframe HC T1 R1 HO
  iintro ⟨S1, D1, HO⟩
  rw [wp_ret]
  imodintro
  iapply Hk
  iframe

end Cert.KProof
-- ==== Proof.Next.lean ====
module

public import proofs.«01_k».proof.Proof.Parts
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

omit [FloatOps F] in
/-- Either staging slot's counter, to be given back. -/
theorem cp_pick (c : Dev nD) (s : Fin 2) : (iprop(semVal (cpC c 0) 0 ∗ semVal (cpC c 1) 0) : sProp 𝕄)
    ⊢ iprop(semVal (cpC c s) 0 ∗ (semVal (cpC c s) 0 -∗ (semVal (cpC c 0) 0 ∗ semVal (cpC c 1) 0))) := by
  rcases (show s = 0 ∨ s = 1 from by revert s; decide) with rfl | rfl
  · iintro ⟨H0, H1⟩
    isplitl [H0]; · iexact H0
    iintro H0
    iframe
  · iintro ⟨H0, H1⟩
    isplitl [H1]; · iexact H1
    iintro H1
    iframe

/-- The values the first part hands on. -/
abbrev R8 : Type := Σ' (_ : BitVec 32) (_ : Dev nD) (_ : BitVec 32) (_ : BitVec 32) (_ : BitVec 32), BitVec 32

/-- The next tile is rounded while the current one is on its way: steps 1 to 7. -/
theorem part8_next (i : grid0.Coords) (q : Fin 8) (hi : (i 0).val = q.val) (hq : q.val ≠ 0) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) {Q : R8 → sProp 𝕄} :
    iprop(Ctx m K ∗ argW m c ∗ stgP (F := F) c ∗ (semVal (cpC c 0) 0 ∗ semVal (cpC c 1) 0) ∗ owesE (F := F) c (Ow (pend q.val) c) ∗ sntI (F := F) c (.inl (q, .lt)) ∗ nx q (Unsent (F := F) c))
      ⊢ iprop((∀ a2 a5 a7 a9, (argW m c ∗ stgP (F := F) c ∗ (semVal (cpC c 0) 0 ∗ semVal (cpC c 1) 0) ∗ owesE (F := F) c (Ow (pend q.val) c)
            ∗ srcP m c (.inl (q, .lt)) ∗ semVal (sendC c (.inl (q, .lt))) 0 ∗ nx q (Conv m c)) -∗ Q ⟨BitVec.ofNat 32 (i 0).val, c, a2, a5, a7, a9⟩)
          -∗ wp frame (wpE (defs₀ (F := F)) 𝒱₀ (c : Thread nD τ) none) Set.univ (k0_part8_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9) Q) := by
  have h1 : ¬k0_cond1 i = 1#1 := fun h => hq (hi ▸ (cond1_iff i).mp h)
  unfold k0_part8_skel
  simp only [Prog.lift, Prog.bind_op, Prog.bind_ret, Prog.pure_eq_ret, wp_deviceId, dif_neg h1]
  iintro ⟨#HC, HA, Hst, Hz, HO, T0, HN⟩ Hk
  iapply (wp_branch c (P := iprop(Ctx m K ∗ argW m c ∗ stgP (F := F) c ∗ (semVal (cpC c 0) 0 ∗ semVal (cpC c 1) 0) ∗ owesE (F := F) c (Ow (pend q.val) c) ∗ nx q (Unsent (F := F) c)))
    (R := iprop(argW m c ∗ stgP (F := F) c ∗ (semVal (cpC c 0) 0 ∗ semVal (cpC c 1) 0) ∗ owesE (F := F) c (Ow (pend q.val) c) ∗ nx q (Conv m c))) ?_ ?_) $$ [HA Hst Hz HO HN]
  · intro h2
    have hq : q.val + 1 < 8 := by have := (cond2_iff i).mp h2; omega
    rw [nx_pos q _ hq, nx_pos q _ hq]
    unfold Unsent Conv
    iintro ⟨#HC, HA, Hst, Hz, HO, Hw, HS, HL⟩ Hk
    ihave Hz := (cp_pick c (slotOf i)) $$ Hz
    icases Hz with ⟨Hz, Hz'⟩
    iapply (wp_cvt_w m K c (slotOf i) ⟨q.val + 1, hq⟩ (o10 hi rfl) (o12 hi rfl) (o12 hi rfl) (o9 i) (o9 i) (o11 i) (sem_copy (slotOf i) (o8 i)) (sem_copy (slotOf i) (o8 i)) rfl
      (mayCp c (slotOf i) _)) $$ [HA Hst Hz HO Hw]
    · iframe HC HA Hst Hz HO Hw
    iintro ⟨HA, Hst, Hz, HO, Hw⟩
    ihave Hz := Hz' $$ Hz
    iapply Hk
    iframe
  · intro h2
    have hq : ¬q.val + 1 < 8 := fun h => h2 ((cond2_iff i).mpr (by omega))
    rw [nx_neg q _ hq, nx_neg q _ hq]
    iintro ⟨-, HA, Hst, Hz, HO, HN⟩
    iframe
  · iframe HC HA Hst Hz HO HN
  iintro ⟨HA, Hst, Hz, HO, HN⟩
  iapply (step_sent m K c (.inl (q, .lt)) (sem_send (.inl (q, .lt)) (o13 hi)) ?_) $$ [T0 HO]
  · rfl
  · iframe HC T0 HO
  iintro ⟨S0, Z0, HO⟩
  rw [wp_ret]
  imodintro
  iapply Hk
  iframe

/-- What device `c` starts from: its buffers and counters, the barrier, the slots it lends, its own turn's tokens. -/
def Start (c : Dev nD) : sProp 𝕄 :=
  iprop(argX m c ∗ argW m c ∗ stgP (F := F) c ∗ (semVal (cpC c 0) 0 ∗ semVal (cpC c 1) 0)
    ∗ (∃ f, wfT c 0 fullShare f) ∗ (∃ f, wfT c 1 fullShare f) ∗ barI (F := F) c ∗ (bigSep Finset.univ fun j : Msg => slotO (F := F) c j)
    ∗ (∃ f, xfR c (peer 0 c) f) ∗ (∃ f, xfR c (peer 1 c) f) ∗ (∃ f, xfR c (peer 2 c) f) ∗ (∃ f, xfR c c f) ∗ xgO (F := F) c
    ∗ (sndT (F := F) c (.inl (0, .lt)) ∗ sndT (F := F) c (.inl (0, .lb)) ∗ sndT (F := F) c (.inl (0, .rb)) ∗ sndT (F := F) c (.inl (0, .rt)))
    ∗ sndT (F := F) c (.inr 0) ∗ sndT (F := F) c (.inr 1) ∗ sndT (F := F) c (.inr 2))

/-- The six pieces of a tile. -/
def pc (t : Fin 8) (Φ : Msg → sProp 𝕄) : sProp 𝕄 :=
  iprop(Φ (.inl (t, .lt)) ∗ Φ (.inl (t, .lb)) ∗ Φ (.inl (t, .rb)) ∗ Φ (.inl (t, .rt)) ∗ Φ (.inl (t, .f)) ∗ Φ (.inl (t, .g)))

omit [FloatOps F] in
theorem kd6 (Φ : Kd → sProp 𝕄) : bigSep Finset.univ Φ = iprop(Φ .lt ∗ Φ .lb ∗ Φ .rb ∗ Φ .rt ∗ Φ .f ∗ Φ .g) := by
  rw [bigSep_univ_eq_bigSepL [.lt, .lb, .rb, .rt, .f, .g] (by decide) (by decide)]
  rfl

theorem msgs (Φ : Msg → sProp 𝕄) : bigSep Finset.univ Φ = iprop((bigSep Finset.univ fun t : Fin 8 => pc t Φ) ∗ Φ (.inr 0) ∗ Φ (.inr 1) ∗ Φ (.inr 2)) := by
  rw [bigSep_univ_sum, fam3, bigSep_univ_prod]
  simp only [kd6]
  rfl

/-- `P` of the tiles after `q`. -/
def rest (n : ℕ) (P : Fin 8 → sProp 𝕄) : sProp 𝕄 := bigSep (Finset.univ.filter fun t : Fin 8 => n < t.val) P
/-- `P` of the tiles before `n`. -/
def before (n : ℕ) (P : Fin 8 → sProp 𝕄) : sProp 𝕄 := bigSep (Finset.univ.filter fun t : Fin 8 => t.val < n) P

theorem tiles_first (P : Fin 8 → sProp 𝕄) : bigSep Finset.univ P = iprop(P 0 ∗ rest 0 P) := by
  have e : (Finset.univ : Finset (Fin 8)) = insert 0 (Finset.univ.filter fun t : Fin 8 => 0 < t.val) := by decide
  exact (congrArg (fun S => bigSep S P) e).trans (bigSep_insert (by decide))

theorem rest_nx (q : Fin 8) (P : Fin 8 → sProp 𝕄) : rest q.val P = iprop(nx q P ∗ rest (q.val + 1) P) := by
  unfold rest
  by_cases h : q.val + 1 < 8
  · rw [nx_pos q P h, show (Finset.univ.filter fun t : Fin 8 => q.val < t.val) = insert ⟨q.val + 1, h⟩ (Finset.univ.filter fun t : Fin 8 => q.val + 1 < t.val) from by
      ext t; simp [Fin.ext_iff]; omega, bigSep_insert (by simp)]
    rfl
  · rw [nx_neg q P h, show (Finset.univ.filter fun t : Fin 8 => q.val < t.val) = ∅ from by ext t; simp; omega,
      show (Finset.univ.filter fun t : Fin 8 => q.val + 1 < t.val) = ∅ from by ext t; simp; omega, bigSep_empty]
    exact both (by iintro -; isplitl <;> iempintro) (by iintro -; iempintro)

theorem before_succ (q : Fin 8) (P : Fin 8 → sProp 𝕄) : before (q.val + 1) P = iprop(P q ∗ before q.val P) := by
  unfold before
  rw [show (Finset.univ.filter fun t : Fin 8 => t.val < q.val + 1) = insert q (Finset.univ.filter fun t : Fin 8 => t.val < q.val) from by
    ext t; simp [Fin.ext_iff]; omega, bigSep_insert (by simp)]
  rfl

end Cert.KProof
-- ==== Proof.First.lean ====
module

public import proofs.«01_k».proof.Proof.Next
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- The device's own block of `x` comes in and is rounded. -/
theorem own_finish (c : Dev nD) {oT oT' : Fin 2 → ℕ} {oS' oL : Fin 3 → ℕ}
    (hT : oT = ![1024 * c.val, 0]) (hT' : oT' = ![1024 * c.val, 0]) (hS' : oS' = ![(0 : Fin 2).val, 0, 0]) (hL : oL = ![(0 : Fin 2).val, 0, 0])
    {bT bT' bS' bL} {sm' : DmaSem sig} (hsm' : sm' = cpS 0)
    {srcw : Memref sig .tc .hbm S1024x1024 .f32} {p4 p5 p6 p7 p8 p9}
    {pay : Vec F S1x1024x1024 .f32 → FVec F S1024x1024 .fp8e4m3} (hpay : pay = k0_pay3) {O : CellTallies nD τ sig Unit}
    (hO : (levAts L lv : sProp 𝕄) ⊢ MayWait (c : Thread nD τ) (.dma (cpS 0)) () O)
    {α : Type} {Q : α → sProp 𝕄} {k : PUnit → Prog (TpuEff nD τ sig (Elt F) Λ₀ .tc) α} :
    iprop(Ctx m K ∗ ownFl m c ∗ owesE (F := F) c O ∗ (∃ f, xfR c c f))
      ⊢ iprop(((argX m c ∗ stgP (F := F) c ∗ semVal (cpC c 0) 0 ∗ owesE (F := F) c O ∗ xfR c c (XF m c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm' srcw ((stM.slice (Rect.unit (s := S2x1024x1024) oS' S1x1024x1024.size bS') (fun _ => rfl)).squeeze S1024x1024 squeezes_S1x1024x1024_S1024x1024) p4 p5) fun _ =>
               .op (.load stM (Rect.unit (s := S2x1024x1024) oL S1x1024x1024.size bL).toLoadRect p6) fun v =>
               .op (.load xfM (Rect.unit (s := S4096x1024) oT S1024x1024.size bT).toLoadRect p7) fun _ =>
               .op (.store xfM (Rect.unit (s := S4096x1024) oT' S1024x1024.size bT') (pay v) Finset.univ p8 p9) k) Q) := by
  subst hT hT' hpay
  iintro ⟨#HC, HF, HO, ⟨%f, Hw⟩⟩ Hk
  unfold argX xfR ownFl
  iapply (wp_copy_wait m K c 0 _ _ hsm' (stSlot_eq 0 hS') hO) $$ [HF HO]
  · iframe HC HF HO
  iintro ⟨Hst, HA, Hz, HO⟩
  unfold stgAt
  icases Hst with ⟨%fd, Hst⟩
  iapply (wp_load 𝒱₀ (c : Thread nD τ) none Set.univ (m := stM) (Finset.subset_univ _)) $$ Hst; iintro Hst
  iapply (wp_load_rect 𝒱₀ (c : Thread nD τ) none Set.univ (m := xfM) (r := rXf c) (S := (rXf c).set) (by rw [View.set_slice_whole])) $$ Hw; iintro Hw
  iapply (wp_store 𝒱₀ (c : Thread nD τ) none Set.univ (m := xfM) (r := rXf c) (Mk := Finset.univ) (S := (rXf c).set)
    (by rw [View.setOn_univ, View.set_slice_whole])) $$ Hw; iintro Hw
  iapply Hk
  isplitl [HA]; · iexact HA
  isplitl [Hst]; · unfold stgP; iexists _; iexact Hst
  isplitl [Hz]; · iexact Hz
  isplitl [HO]; · iexact HO
  iapply (Entails.of_eq (pointsTo_congr (ℓ := (c : Thread nD τ).loc cc0_scratch5) (q := fullShare) (I := (rXf c).set) (xf_store m c 0 c hL f fd)))
  iexact Hw

/-- The slots left over once the first turn's seven copies are sent. -/
def left7 (c : Dev nD) : sProp 𝕄 :=
  iprop((piece (F := F) c (.inl (0, .f)) ∗ piece (F := F) c (.inl (0, .g))) ∗ rest 0 fun t => pc t (piece (F := F) c))

/-- The first step, up to its first wait: everything but the two copies passed on. -/
theorem part8_first (i : grid0.Coords) (hi : (i 0).val = (0 : Fin 8).val) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) {Q : R8 → sProp 𝕄} :
    iprop(Ctx m K ∗ owesE (F := F) c (OB3 c) ∗ Start m c)
      ⊢ iprop((∀ a2 a5 a7 a9, (argX m c ∗ argW m c ∗ stgP (F := F) c ∗ (semVal (cpC c 0) 0 ∗ semVal (cpC c 1) 0) ∗ owesE (F := F) c (Ow (pend (0 : Fin 8).val) c)
            ∗ keepW m c 0 ∗ srcP m c (.inl (0, .lt)) ∗ semVal (sendC c (.inl (0, .lt))) 0
            ∗ sntI (F := F) c (.inl (0, .lb)) ∗ sntI (F := F) c (.inl (0, .rb)) ∗ sntI (F := F) c (.inl (0, .rt))
            ∗ sntI (F := F) c (.inr 0) ∗ sntI (F := F) c (.inr 1) ∗ sntI (F := F) c (.inr 2)
            ∗ wfT c 1 fullShare (WF m c) ∗ left7 (F := F) c ∗ semVal (barC c) 0 ∗ xfR c c (XF m c) ∗ xgR m c c)
              -∗ Q ⟨BitVec.ofNat 32 (i 0).val, c, a2, a5, a7, a9⟩)
          -∗ wp frame (wpE (defs₀ (F := F)) 𝒱₀ (c : Thread nD τ) none) Set.univ (k0_part8_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9) Q) := by
  have h1 : k0_cond1 i = 1#1 := (cond1_iff i).mpr hi
  have h2 : ¬k0_cond2 i = 1#1 := fun h => by have := (cond2_iff i).mp h; have h0 : (i 0).val = 0 := hi; omega
  unfold k0_part8_skel
  simp only [Prog.lift, Prog.bind_op, Prog.bind_ret, Prog.pure_eq_ret, wp_deviceId, dif_pos h1, dif_neg h2, wp_bind,
    k0_part1_eq_skeleton, k0_part2_eq_skeleton, k0_part3_eq_skeleton, k0_part4_eq_skeleton, k0_part5_eq_skeleton, k0_part6_eq_skeleton]
  unfold Start
  iintro ⟨#HC, HO, HX, HA, Hst, ⟨Hz0, Hz1⟩, Hw0, Hw1, HB, HS, Hx0, Hx1, Hx2, Hxc, Hg, ⟨T0, T1, T2, T3⟩, T4, T5, T6⟩ Hk
  iapply (part1_spec m K i c arg3 harg3 arg4 harg4 arg5 harg5 _ _ _ h1) $$ [HA Hst Hz0 HO Hw0 HB HS]
  · iframe HC HA Hst Hz0 HO Hw0 HB HS
  rw [wf_shares m c 0, msgs, tiles_first]
  unfold pc
  iintro ⟨HA, Hst, Hz0, HO, ⟨HW, S0, S1, S2, S3⟩, HB, ⟨⟨P0, P1, P2, P3, Pf, Pg⟩, HP⟩, P4, P5, P6⟩
  iapply (part2_spec m K i c arg3 harg3 arg4 harg4 arg5 harg5 _ _ h1) $$ [HO S0 T0 P0 S1 T1 P1 S2 T2 P2]
  · unfold sndI
    iframe HC HO S0 T0 P0 S1 T1 P1 S2 T2 P2
  iintro %v ⟨HO, T0, T1, T2⟩
  iapply (part3_spec m K i c arg3 harg3 arg4 harg4 arg5 harg5 _ h1 v (S := (((Finset.univ.erase (.inl (0, .lt))).erase (.inl (0, .lb))).erase (.inl (0, .rb)))) (by decide)) $$ [HO S3 T3 P3 HX Hst Hz0 Hx0]
  · unfold sndI
    iframe HC HO S3 T3 P3 HX Hst Hz0 Hx0
  rw [x_src m c 0]
  iintro ⟨HO, T3, HX, Hst, Hz0, S4⟩
  iapply (part4_spec m K i c arg3 harg3 arg4 harg4 arg5 harg5 _ h1 (S := ((((Finset.univ.erase (.inl (0, .lt))).erase (.inl (0, .lb))).erase (.inl (0, .rb))).erase (.inl (0, .rt)))) (by decide)) $$ [HO S4 T4 P4 HX Hst Hz1 Hx1]
  · unfold sndI
    iframe HC HO S4 T4 P4 HX Hst Hz1 Hx1
  rw [x_src m c 1]
  iintro ⟨HO, T4, HX, Hst, Hz1, S5⟩
  iapply (part5_spec m K i c arg3 harg3 arg4 harg4 arg5 harg5 _ h1 (S := (((((Finset.univ.erase (.inl (0, .lt))).erase (.inl (0, .lb))).erase (.inl (0, .rb))).erase (.inl (0, .rt))).erase (.inr 0))) (by decide)) $$ [HO S5 T5 P5 HX Hst Hz0 Hx2]
  · unfold sndI
    iframe HC HO S5 T5 P5 HX Hst Hz0 Hx2
  rw [x_src m c 2]
  iintro ⟨HO, T5, HX, Hst, Hz0, S6⟩
  iapply (part6_spec m K i c arg3 harg3 arg4 harg4 arg5 harg5 _ h1 (S := ((((((Finset.univ.erase (.inl (0, .lt))).erase (.inl (0, .lb))).erase (.inl (0, .rb))).erase (.inl (0, .rt))).erase (.inr 0)).erase (.inr 1))) (by decide)) $$ [HO S6 T6 P6 HX HA Hst Hz0 Hz1 Hw1]
  · unfold sndI
    iframe HC HO S6 T6 P6 HX HA Hst Hz0 Hz1 Hw1
  rw [show (((((((Finset.univ.erase (.inl (0, .lt)) : Finset Msg).erase (.inl (0, .lb))).erase (.inl (0, .rb))).erase (.inl (0, .rt))).erase (.inr 0)).erase (.inr 1)).erase (.inr 2)) = pend (0 : Fin 8).val from pend_zero]
  iintro ⟨HO, T6, HF, HA, Hz1, Hw1⟩
  iapply (own_finish m K c (k0_off7_eq c) (k0_off7_eq c) rfl rfl (sem_copy 0 rfl) rfl (mayCp c 0 _)) $$ [HF HO Hxc]
  · iframe HC HF HO Hxc
  iintro ⟨HX, Hst, Hz0, HO, Hxc⟩
  iapply (step_own m K c (xfRows_eq c (k0_off6_eq c)) (xgSlot_eq c (k0_off3_eq c)) (sem_copy 0 rfl) (sem_copy 0 rfl) (xgSlot_eq c (k0_off3_eq c)) (mayCp c 0 _)) $$ [Hxc Hg Hz0 HO]
  · iframe HC Hxc Hg Hz0 HO
  iintro ⟨Hxc, Hg, Hz0, HO⟩
  iapply (step_sent m K c (.inl (0, .lt)) (sem_send (.inl (0, .lt)) (o13 hi)) ?_) $$ [T0 HO]
  · rfl
  · iframe HC T0 HO
  iintro ⟨S0, Z0, HO⟩
  rw [wp_ret]
  imodintro
  iapply Hk
  unfold left7 pc
  iframe

end Cert.KProof
-- ==== Proof.Body.lean ====
module

public import proofs.«01_k».proof.Proof.First
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- A tile whose six copies are over: its buffer, its slots and its counters are back. -/
def Done (c : Dev nD) (t : Fin 8) : sProp 𝕄 :=
  iprop((∃ f, wfT c t fullShare f) ∗ pc t (slotO (F := F) c) ∗ pc t (doneS (F := F) c))

/-- What stays from the first step on. -/
def xRest (c : Dev nD) : sProp 𝕄 := iprop(xfR c c (XF m c) ∗ xgR m c c ∗ semVal (barC c) 0)

/-- The arguments, the staging buffer and its counters. -/
def base (c : Dev nD) : sProp 𝕄 := iprop(argX m c ∗ argW m c ∗ stgP (F := F) c ∗ (semVal (cpC c 0) 0 ∗ semVal (cpC c 1) 0))

/-- The tiles still to be worked on when step `n` begins. -/
def cur (c : Dev nD) (n : ℕ) : sProp 𝕄 := if h : n < 8 then iprop(InFl m c ⟨n, h⟩ ∗ rest n (Unsent (F := F) c)) else iprop(emp)

/-- The tokens the first step does not use yet. -/
def Tail (c : Dev nD) : sProp 𝕄 :=
  iprop((sndT (F := F) c (.inl (0, .f)) ∗ sndT (F := F) c (.inl (0, .g))) ∗ (rest 0 fun t => pc t (sndT (F := F) c))
    ∗ (bigSep Finset.univ fun t => pc t (rcvI (F := F) c)) ∗ (rcvI (F := F) c (.inr 0) ∗ rcvI (F := F) c (.inr 1) ∗ rcvI (F := F) c (.inr 2))
    ∗ (rest 1 fun t => iprop(∃ f, wfT c t fullShare f)))

/-- What device `c` holds when step `n` begins. -/
def St (c : Dev nD) (n : ℕ) : sProp 𝕄 :=
  if n = 0 then iprop(Start m c ∗ Tail (F := F) c)
  else iprop(base m c ∗ xDn m c ∗ xDn2 m c ∗ xRest m c ∗ cur m c n ∗ before n (Done (F := F) c))
/-- What it owes then. -/
def OwN (c : Dev nD) (n : ℕ) : CellTallies nD τ sig Unit := if n = 0 then OB3 c else Ow (pend n) c

theorem cur_succ (c : Dev nD) (q : Fin 8) : iprop(nx q (InFl m c) ∗ rest (q.val + 1) (Unsent (F := F) c)) ⊢ cur m c (q.val + 1) := by
  unfold cur
  by_cases h : q.val + 1 < 8
  · rw [dif_pos h, nx_pos q _ h]
  · rw [dif_neg h]
    iintro -
    iempintro

theorem tile_later (c : Dev nD) (t : Fin 8) : iprop(pc t (piece (F := F) c) ∗ pc t (sndT (F := F) c) ∗ pc t (rcvI (F := F) c)) ⊢ iprop(snd4 (F := F) c t ∗ later (F := F) c t) := by
  unfold pc snd4 later sndI
  iintro ⟨⟨H1, H2, H3, H4, H5, H6⟩, ⟨G1, G2, G3, G4, G5, G6⟩, J1, J2, J3, J4, J5, J6⟩
  iframe

theorem tile_unsent (c : Dev nD) (t : Fin 8) :
    iprop(pc t (piece (F := F) c) ∗ pc t (sndT (F := F) c) ∗ pc t (rcvI (F := F) c) ∗ ∃ f, wfT c t fullShare f) ⊢ Unsent (F := F) c t := by
  have h := tile_later (F := F) c t
  unfold Unsent
  iintro ⟨H1, H2, H3, H4⟩
  isplitl [H4]; · iexact H4
  iapply h
  iframe

theorem rest_unsent (c : Dev nD) (n : ℕ) :
    iprop((rest n fun t => pc t (piece (F := F) c)) ∗ (rest n fun t => pc t (sndT (F := F) c)) ∗ (rest n fun t => pc t (rcvI (F := F) c))
      ∗ (rest n fun t => iprop(∃ f, wfT c t fullShare f))) ⊢ rest n (Unsent (F := F) c) := by
  unfold rest
  rw [← bigSep_sep', ← bigSep_sep', ← bigSep_sep']
  exact bigSep_mono fun t _ => tile_unsent c t

theorem regroup0 (c : Dev nD) : iprop(left7 (F := F) c ∗ wfT c 1 fullShare (WF m c) ∗ Tail (F := F) c)
    ⊢ iprop(later (F := F) c 0 ∗ nx 0 (Conv m c) ∗ rest ((0 : Fin 8).val + 1) (Unsent (F := F) c)
        ∗ (rcvI (F := F) c (.inr 0) ∗ rcvI (F := F) c (.inr 1) ∗ rcvI (F := F) c (.inr 2))) := by
  have hr (P : Fin 8 → sProp 𝕄) : rest 0 P = iprop(P 1 ∗ rest 1 P) := rest_nx 0 P
  have hn : nx 0 (Conv m c) = Conv m c 1 := nx_pos 0 _ (by decide)
  have ht := tile_later (F := F) c 1
  have hu := rest_unsent (F := F) c 1
  unfold left7 Tail
  rw [tiles_first, hr, hr, hr, hn]
  unfold Conv
  iintro ⟨⟨⟨Pf, Pg⟩, P1, PR⟩, HW, ⟨Tf, Tg⟩, ⟨T1, TR⟩, ⟨R0, R1, RR⟩, HX, WR⟩
  isplitl [Pf Pg Tf Tg R0]
  · unfold later sndI pc
    icases R0 with ⟨J1, J2, J3, J4, J5, J6⟩
    iframe
  isplitl [P1 T1 R1 HW]
  · isplitl [HW]; · iexact HW
    iapply ht
    iframe
  isplitl [PR TR RR WR]
  · iapply hu
    iframe
  iexact HX

/-- What device `c` holds after step `q`'s first part. -/
def Mid (c : Dev nD) (q : Fin 8) : sProp 𝕄 :=
  iprop(base m c ∗ owesE (F := F) c (Ow (pend q.val) c) ∗ keepW m c q ∗ srcP m c (.inl (q, .lt)) ∗ semVal (sendC c (.inl (q, .lt))) 0
    ∗ (sntI (F := F) c (.inl (q, .lb)) ∗ sntI (F := F) c (.inl (q, .rb)) ∗ sntI (F := F) c (.inl (q, .rt))) ∗ later (F := F) c q ∗ nx q (Conv m c)
    ∗ rest (q.val + 1) (Unsent (F := F) c) ∗ xSt m c q ∗ xSt2 m c q ∗ xRest m c ∗ before q.val (Done (F := F) c))

theorem before_zero (P : Fin 8 → sProp 𝕄) : before (0 : Fin 8).val P = iprop(emp) := by
  unfold before
  rw [show (Finset.univ.filter fun t : Fin 8 => t.val < (0 : Fin 8).val) = ∅ from by decide, bigSep_empty]
  rfl

theorem part8_spec (i : grid0.Coords) (q : Fin 8) (hi : (i 0).val = q.val) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) {Q : R8 → sProp 𝕄} :
    iprop(Ctx m K ∗ owesE (F := F) c (OwN c q.val) ∗ St m c q.val)
      ⊢ iprop((∀ a2 a5 a7 a9, Mid m c q -∗ Q ⟨BitVec.ofNat 32 (i 0).val, c, a2, a5, a7, a9⟩) -∗ wp frame (wpE (defs₀ (F := F)) 𝒱₀ (c : Thread nD τ) none) Set.univ (k0_part8_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9) Q) := by
  by_cases hq : q.val = 0
  · obtain rfl : q = 0 := Fin.ext hq
    have hr := regroup0 m c
    unfold OwN St Mid xSt xSt2
    rw [if_pos hq, if_pos hq, if_pos hq, if_pos hq]
    iintro ⟨#HC, HO, HS, HT⟩ Hk
    iapply (part8_first m K i hi c arg3 harg3 arg4 harg4 arg5 harg5) $$ [HO HS]
    · iframe HC HO HS
    iintro %a2 %a5 %a7 %a9 ⟨HX, HA, Hst, Hz, HO, HW, S0, Z0, T1, T2, T3, X0, X1, X2, Hw1, HL, HB, Hxf, Hxg⟩
    ihave H := hr $$ [HL Hw1 HT]
    · iframe
    icases H with ⟨HL, HN, HR, R0, R1, R2⟩
    iapply Hk
    rw [before_zero]
    unfold base xFl xFl2 xRest
    iframe
  · unfold OwN St Mid xSt xSt2
    rw [if_neg hq, if_neg hq, if_neg hq, if_neg hq]
    unfold cur InFl snt4 base
    rw [dif_pos q.isLt, rest_nx q]
    iintro ⟨#HC, HO, ⟨HX, HA, Hst, Hz⟩, HD, HD2, HR, ⟨⟨HW, ⟨T0, T1, T2, T3⟩, HL⟩, HN, HU⟩, HB⟩ Hk
    iapply (part8_next m K i q hi hq c arg3 harg3 arg4 harg4 arg5 harg5) $$ [HA Hst Hz HO T0 HN]
    · iframe HC HA Hst Hz HO T0 HN
    iintro %a2 %a5 %a7 %a9 ⟨HA, Hst, Hz, HO, S0, Z0, HN⟩
    iapply Hk
    iframe

theorem done_intro (c : Dev nD) (q : Fin 8) :
    iprop(keepW m c q ∗ srcP m c (.inl (q, .lt)) ∗ semVal (sendC c (.inl (q, .lt))) 0 ∗ semVal (recvC c (.inl (q, .lt))) 0 ∗ keepF m c q ∗ keepG m c q
        ∗ (srcP m c (.inl (q, .rb)) ∗ doneS (F := F) c (.inl (q, .rb))) ∗ (srcP m c (.inl (q, .lb)) ∗ doneS (F := F) c (.inl (q, .lb))) ∗ dstP m c (.inl (q, .lb))
        ∗ (srcP m c (.inl (q, .rt)) ∗ doneS (F := F) c (.inl (q, .rt))) ∗ dstP m c (.inl (q, .rt)) ∗ (srcP m c (.inl (q, .f)) ∗ doneS (F := F) c (.inl (q, .f))) ∗ dstP m c (.inl (q, .f))
        ∗ (srcP m c (.inl (q, .g)) ∗ doneS (F := F) c (.inl (q, .g))) ∗ dstP m c (.inl (q, .g))) ⊢ Done (F := F) c q := by
  have hw := Entails.of_eq (wf_shares m c q).symm
  have h0 := (Entails.of_eq (f_shares m c q).symm).trans (dstP_slotO m c (.inl (q, .lt)))
  have h1 := dstP_slotO m c (.inl (q, .lb))
  have h2 := (Entails.of_eq (g_shares m c q).symm).trans (dstP_slotO m c (.inl (q, .rb)))
  have h3 := dstP_slotO m c (.inl (q, .rt))
  have h4 := dstP_slotO m c (.inl (q, .f))
  have h5 := dstP_slotO m c (.inl (q, .g))
  unfold Done pc
  iintro ⟨HW, S0, Z0, Y0, HF, HG, ⟨S2, Z2⟩, ⟨S1, Z1⟩, D1, ⟨S3, Z3⟩, D3, ⟨S4, Z4⟩, D4, ⟨S5, Z5⟩, D5⟩
  isplitl [HW S0 S1 S2 S3]
  · iexists (WF m c)
    iapply hw
    iframe
  isplitl [HF HG S4 S5 D1 D3 D4 D5]
  · isplitl [HF S4]; · iapply h0; iframe
    isplitl [D1]; · iapply h1; iexact D1
    isplitl [HG S5]; · iapply h2; iframe
    isplitl [D3]; · iapply h3; iexact D3
    isplitl [D4]; · iapply h4; iexact D4
    iapply h5; iexact D5
  iframe
  unfold doneS
  iframe

theorem hz1 : (![0] : Fin 1 → ℕ) = fun _ => 0 := funext fun a => by fin_cases a; rfl
/-- The one index of a scalar's buffer. -/
def one1 : S1.Idx := Shape.Idx.first (s := S1) (numel1_S1.symm ▸ Nat.one_pos)
/-- The block step `q` leaves. -/
def acc6 (c : Dev nD) (q : Fin 8) (X3 X4 : S1.Idx → Elt F .f32) : FVec F S1024x1024 .f32 := k0_pay2 (acc5 m c q) (X3 one1) (X4 one1)

theorem body_spec (i : grid0.Coords) (q : Fin 8) (hi : (i 0).val = q.val) (c : Dev nD) (arg3 : Memref sig .tc .smem S1 .f32) (harg3 : arg3.IsWhole) (arg4 : Memref sig .tc .smem S1 .f32) (harg4 : arg4.IsWhole) (arg5 : Memref sig .tc .vmem S1024x1024 .f32) (harg5 : arg5.IsWhole) (q3 q4 : PosShare TreeShare) (X3 X4 : S1.Idx → Elt F .f32) {Q : PUnit → sProp 𝕄} :
    iprop(Ctx m K ∗ owesE (F := F) c (OwN c q.val) ∗ St m c q.val ∗ owns (c : Thread nD τ) arg3 q3 X3 ∗ owns (c : Thread nD τ) arg4 q4 X4 ∗ (∃ X, owns (c : Thread nD τ) arg5 fullShare X))
      ⊢ iprop(((owesE (F := F) c (OwN c (q.val + 1)) ∗ St m c (q.val + 1) ∗ owns (c : Thread nD τ) arg3 q3 X3 ∗ owns (c : Thread nD τ) arg4 q4 X4
            ∗ owns (c : Thread nD τ) arg5 fullShare (acc6 m c q X3 X4)) -∗ Q ⟨⟩)
          -∗ wp frame (wpE (defs₀ (F := F)) 𝒱₀ (c : Thread nD τ) none) Set.univ (cc0_body_skel i (Memref.whole main_arg0) (Memref.isWhole_whole _) (Memref.whole main_arg1) (Memref.isWhole_whole _) arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9) Q) := by
  unfold cc0_body_skel
  simp only [smemLoad, smemLoadElt, Prog.lift, Prog.bind_op, Prog.bind_ret, Prog.pure_eq_ret, wp_bind, k0_part8_eq_skeleton, k0_part9_eq_skeleton, k0_part10_eq_skeleton,
    k0_part11_eq_skeleton, k0_part12_eq_skeleton, k0_part13_eq_skeleton]
  have hd := done_intro m c q
  have hc := cur_succ m c q
  iintro ⟨#HC, HO, HS, H3, H4, H5⟩ Hk
  iapply (part8_spec m K i q hi c arg3 harg3 arg4 harg4 arg5 harg5) $$ [HO HS]
  · iframe HC HO HS
  unfold Mid later xRest
  iintro %a2 %a5 %a7 %a9 ⟨HB, HO, HW, S0, Z0, ⟨T1, T2, T3⟩, ⟨R0, R1, R2, R3, I4, I5, R4, R5⟩, HN, HU, HX, HX2, ⟨Hxf, Hxg, Hbar⟩, HD⟩
  iapply (part9_spec m K i q hi c arg3 harg3 arg4 harg4 arg5 harg5 _ _ _) $$ [HO R0 I4 T2 R2]
  · iframe HC HO R0 I4 T2 R2
  iintro ⟨HO, HF, Y0, T4, D2, HG, S5⟩
  iapply (part10_spec m K i q hi c arg3 harg3 arg4 harg4 arg5 harg5 _ _ _ _) $$ [HO S5 I5 HN Hxg HW HX HF H5]
  · iframe HC HO S5 I5 HN Hxg HW HX HF H5
  unfold xDn
  iintro ⟨HO, T5, HN, Hxg, HW, ⟨HX0, HX1, HXL, HXR⟩, HF, H5⟩
  iapply (part11_spec m K i q hi c arg3 harg3 arg4 harg4 arg5 harg5 _ _ _) $$ [HO HXR HG T1 R1 HXL H5]
  · iframe HC HO HXR HG T1 R1 HXL
    iexists _; iexact H5
  iintro ⟨HO, HXR, HG, D1, E1, HXL, H5⟩
  dsimp only
  iapply (part12_spec m K i q hi c arg3 harg3 arg4 harg4 arg5 harg5 _ _ _) $$ [HO T3 R3 HXR H5]
  · iframe HC HO T3 R3 HXR
    iexists _; iexact H5
  iintro %v ⟨HO, D3, E3, HXR, H5⟩
  iapply (part13_spec m K i q hi c arg3 harg3 arg4 harg4 arg5 harg5 _ _ _ _ _ _) $$ [HO HX2 T4 R4 T5 R5]
  · iframe HC HO HX2 T4 R4 T5 R5
  unfold xDn2
  iintro ⟨HO, ⟨HXS, HXD⟩, D4, E4, D5, E5⟩
  iapply (step_load c harg5 hz0 fullShare _) $$ H5; iintro H5
  iapply (load_xg m c (peer 2 c) (k0_off32_eq c 1)) $$ HXD; iintro HXD
  iapply (load_wd m c q (o36 hi)) $$ [E4 E5]
  · iframe
  iintro ⟨E4, E5⟩
  iapply (step_load c harg5 hz0 fullShare _) $$ H5; iintro H5
  iapply (step_store c harg5 hz0 _ _) $$ H5; iintro H5
  iapply (step_load c harg5 hz0 fullShare _) $$ H5; iintro H5
  iapply (step_load c harg3 hz1 q3 X3) $$ H3; iintro H3
  iapply (step_load c harg4 hz1 q4 X4) $$ H4; iintro H4
  iapply (step_load c harg5 hz0 fullShare _) $$ H5; iintro H5
  iapply (step_store c harg5 hz0 _ _) $$ H5; iintro H5
  rw [wp_ret]
  imodintro
  unfold acc6 acc5
  iapply Hk
  unfold OwN St xDn xDn2 xRest
  rw [if_neg (Nat.succ_ne_zero _), if_neg (Nat.succ_ne_zero _), before_succ]
  isplitl [HO]; · iexact HO
  isplitr [H3 H4 H5]
  rotate_left
  · iframe H3 H4
    iexact H5
  iframe HB HX0 HX1 HXL HXR HXS HXD Hxf Hxg Hbar HD
  isplitl [HN HU]
  · iapply hc
    iframe
  · iapply hd
    iframe

end Cert.KProof
-- ==== Proof.Fund.lean ====
module

public import proofs.«01_k».proof.Proof.Body
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The cells and tokens of the launch -/

theorem csem_injective : Function.Injective csem := by
  have hs : ∀ i j : Msg, sS i = sS j → i = j := fun i j h => by
    have := (dec_sS i).symm.trans ((congrArg (fun n : DmaSem sig => dec n.val) h).trans (dec_sS j))
    exact congrArg Prod.snd (Option.some.inj this)
  have hr : ∀ i j : Msg, sR i = sR j → i = j := fun i j h => by
    have := (dec_sR i).symm.trans ((congrArg (fun n : DmaSem sig => dec n.val) h).trans (dec_sR j))
    exact congrArg Prod.snd (Option.some.inj this)
  have hsr : ∀ i j : Msg, sS i ≠ sR j := fun i j h => by
    have := (dec_sS i).symm.trans ((congrArg (fun n : DmaSem sig => dec n.val) h).trans (dec_sR j))
    exact Bool.noConfusion (congrArg Prod.fst (Option.some.inj this))
  rintro (⟨⟩ | i | i) (⟨⟩ | j | j) h
  · rfl
  · cases h
  · cases h
  · cases h
  · rw [hs i j (SemLoc.dma.inj h)]
  · exact absurd (SemLoc.dma.inj h) (hsr i j)
  · cases h
  · exact absurd (SemLoc.dma.inj h).symm (hsr j i)
  · rw [hr i j (SemLoc.dma.inj h)]

theorem kcell_injective : Function.Injective (kcell : Dev nD × CI → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def allCells : Finset (GSem nD τ sig) := Finset.univ.map ⟨kcell, kcell_injective⟩

/-- A device's own cells' duties: three of its barrier, one of each message's send and receive cell. -/
abbrev TI := Fin 3 ⊕ (Msg ⊕ Msg)
def tcell : TI → CI × Fin 3 | .inl d => (.inl (), d) | .inr k => (.inr k, 0)
theorem tcell_injective : Function.Injective tcell := by
  rintro (d | k) (d' | k') h
  · exact congrArg Sum.inl (congrArg Prod.snd h)
  · exact absurd (congrArg Prod.fst h) Sum.inl_ne_inr
  · exact absurd (congrArg Prod.fst h) Sum.inr_ne_inl
  · exact congrArg Sum.inr (Sum.inr.inj (congrArg Prod.fst h))
abbrev tokOf (cj : Dev nD × TI) : GSem nD τ sig × ℕ × Fin 3 := (kcell (cj.1, (tcell cj.2).1), 0, (tcell cj.2).2)
theorem tokOf_injective : Function.Injective (tokOf : Dev nD × TI → GSem nD τ sig × ℕ × Fin 3) := by
  rintro ⟨c, j⟩ ⟨c', j'⟩ h
  have h1 : (c, (tcell j).1) = (c', (tcell j').1) := kcell_injective (congrArg Prod.fst h)
  have h2 : (tcell j).2 = (tcell j').2 := congrArg (fun x : GSem nD τ sig × ℕ × Fin 3 => x.2.2) h
  have h3 : c = c' := congrArg Prod.fst h1
  rw [h3, tcell_injective (Prod.ext (congrArg Prod.snd h1) h2)]
def allToks : Finset (GSem nD τ sig × ℕ × Fin 3) := Finset.univ.map ⟨tokOf, tokOf_injective⟩

def u₀ : UU :=
  (initOf (Pipeline.cells cfgs cellOf_inj) (Pipeline.launchToks cfgs cellOf_inj), (initOf allCells allToks, 1))

theorem ownU_split (a : UR sig nD τ) (b : UB) :
    (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 :=
  iprop((bigSep Finset.univ fun d : Fin 3 => dutyTok (ER (F := F)) (barC c) 0 d) ∗ (bigSep Finset.univ fun i : Msg => dutyTok (ER (F := F)) (sendC c i) 0 0)
    ∗ bigSep Finset.univ fun i : Msg => dutyTok (ER (F := F)) (recvC c i) 0 0)

/-- What the launch deals device `c`. -/
def G (c : Dev nD) : sProp 𝕄 :=
  iprop((bigSep Finset.univ fun k : CI => roundState ER (sched m) (kcell (c, k)) 0)
    ∗ (bigSep Finset.univ fun k : CI => iprop(atPos (ER (F := F)) (kcell (c, k)) 0 ∅ 0 ∗ reached (ER (F := F)) (kcell (c, k)) 0)) ∗ toks (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's own semaphores -/

abbrev OI := (Msg ⊕ Msg) ⊕ Fin 2
def osem : OI → SemLoc sig | .inl k => csem (.inr k) | .inr s => .dma (cpS s)

theorem osem_val (k : OI) : ∃ n : DmaSem sig, osem k = .dma n ∧ 4 ≤ n.val := by
  rcases k with (i | i) | s
  · exact ⟨sS i, rfl, by show 4 ≤ 4 + ix i; omega⟩
  · exact ⟨sR i, rfl, by show 4 ≤ 55 + ix i; omega⟩
  · exact ⟨cpS s, rfl, by show 4 ≤ 106 + s.val; omega⟩
theorem osem_injective : Function.Injective osem := by
  have hx : ∀ (k : Msg ⊕ Msg) (s : Fin 2), csem (.inr k) ≠ .dma (cpS s) := by
    rintro (i | i) s h
    · have := congrArg (fun n : DmaSem sig => n.val) (SemLoc.dma.inj h)
      have h2 : 4 + ix i = 106 + s.val := this
      have := ix_lt i; omega
    · have := congrArg (fun n : DmaSem sig => n.val) (SemLoc.dma.inj h)
      have h2 : 55 + ix i = 106 + s.val := this
      have := ix_lt i; omega
  rintro (k | s) (k' | s') h
  · rw [Sum.inr.inj (csem_injective h)]
  · exact absurd h (hx k s')
  · exact absurd h.symm (hx k' s)
  · have h2 : 106 + s.val = 106 + s'.val := congrArg (fun n : DmaSem sig => n.val) (SemLoc.dma.inj h)
    exact congrArg Sum.inr (Fin.ext (by omega))
theorem stage_sem_lt : ∀ (w : Fin cfg0.W) (s : Fin (cfg0.spec w).nbuf), ((cfg0.spec w).sem s).val < 4 := by decide
theorem dma_scoped : ∀ n : DmaSem sig, (SemLoc.dma n).isScoped .tc = true := by decide
theorem ownSemFacts : Pipeline.OwnSemFacts cfg0.spec osem :=
  ⟨fun k => by obtain ⟨n, hn, _⟩ := osem_val k; rw [hn]; exact dma_scoped n, osem_injective, fun k w s h => by
    obtain ⟨n, hn, h4⟩ := osem_val k
    rw [hn] at h
    have := stage_sem_lt w s
    rw [← SemLoc.dma.inj h] at this
    omega⟩

/-- A device's own semaphores at zero: its messages' and its two copy semaphores. -/
theorem ownSems0_eq (c : Dev nD) : (Pipeline.ownSems0 (Ix := Unit) (Name := ℕ) (U := UU) (Lvl := ℕ) (Val := Elt F) (τ := τ) osem c : sProp 𝕄)
    = iprop(((bigSep Finset.univ fun i : Msg => semVal (sendC c i) 0) ∗ (bigSep Finset.univ fun i : Msg => semVal (recvC c i) 0))
      ∗ (semVal (cpC c 0) 0 ∗ semVal (cpC c 1) 0)) := by
  unfold Pipeline.ownSems0
  rw [bigSep_univ_sum, bigSep_univ_sum, BI.bigSep_fin_two]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

theorem bigSep_CI (Φ : CI → sProp 𝕄) : bigSep Finset.univ Φ
    = iprop(Φ (.inl ()) ∗ (bigSep Finset.univ fun i : Msg => Φ (.inr (.inl i))) ∗ bigSep Finset.univ fun i : Msg => Φ (.inr (.inr i))) := by
  rw [bigSep_univ_sum, bigSep_univ_sum, Finset.univ_unique, bigSep_singleton]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ (semVal (cpC c 0) 0 ∗ semVal (cpC c 1) 0)) : sProp 𝕄) := by
  rw [ownSems0_eq, unscopedSems0_eq, bigSep_CI]
  iintro ⟨⟨⟨HS, HV⟩, HC⟩, HB⟩
  isplitr [HC]
  · isplitl [HB]; · iexact HB
    isplitl [HS]; · iexact HS
    iexact HV
  · iexact HC

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (sched m) κ (kcell (c, k))))
          ∗ (bigSep Finset.univ fun k : CI => iprop(atPos (ER (F := F)) (kcell (c, k)) 0 ∅ 0 ∗ reached (ER (F := F)) (kcell (c, k)) 0))
          ∗ toks (F := F) c ∗ (semVal (cpC c 0) 0 ∗ semVal (cpC c 1) 0)) := by
  unfold G
  iintro ⟨Hos, Hus, Hst, Hat, Htok⟩
  ihave Hv := (sems0_eq (F := F) c) $$ [Hos Hus]
  · isplitl [Hos] <;> iassumption
  icases Hv with ⟨Hv, Hcp⟩
  imod (show iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  iframe

/-! ## The tokens dealt to the devices that pay with them -/

/-- The tokens of the duties device `c` pays. -/
def payToks (c : Dev nD) : sProp 𝕄 :=
  iprop((bigSep Finset.univ fun d : Fin 3 => dutyTok (ER (F := F)) (barC (peer (opp d) c)) 0 d) ∗ (bigSep Finset.univ fun i : Msg => dutyTok (ER (F := F)) (sendC c i) 0 0)
    ∗ bigSep Finset.univ fun i : Msg => dutyTok (ER (F := F)) (recvC (tgt i c) i) 0 0)

theorem bigSep_flip {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]; rfl

theorem toks_around : (bigSep Finset.univ fun c : Dev nD => toks (F := F) c) = bigSep Finset.univ fun c : Dev nD => payToks (F := F) c := by
  unfold toks payToks
  rw [bigSep_sep', bigSep_sep', bigSep_sep', bigSep_sep']
  congr 1
  · rw [bigSep_flip, bigSep_flip fun (c : Dev nD) (d : Fin 3) => (dutyTok (ER (F := F)) (barC (peer (opp d) c)) 0 d : sProp 𝕄)]
    exact bigSep_congr fun d _ => bigSep_univ_equiv (peerE (opp d)) (fun c : Dev nD => (dutyTok (ER (F := F)) (barC c) 0 d : sProp 𝕄))
  · congr 1
    rw [bigSep_flip, bigSep_flip fun (c : Dev nD) (i : Msg) => (dutyTok (ER (F := F)) (recvC (tgt i c) i) 0 0 : sProp 𝕄)]
    exact bigSep_congr fun i _ => bigSep_univ_equiv (peerE (dir i)) (fun c : Dev nD => (dutyTok (ER (F := F)) (recvC c i) 0 0 : sProp 𝕄))

/-- What stays with device `c`: its positions, the tokens it pays with, its copy semaphores. -/
def linear (c : Dev nD) : sProp 𝕄 :=
  iprop((bigSep Finset.univ fun k : CI => atPos (ER (F := F)) (kcell (c, k)) 0 ∅ 0) ∗ payToks (F := F) c ∗ (semVal (cpC c 0) 0 ∗ semVal (cpC c 1) 0))
theorem linear_all : iprop((bigSep Finset.univ fun c : Dev nD => bigSep Finset.univ fun k : CI => atPos (ER (F := F)) (kcell (c, k)) 0 ∅ 0)
      ∗ (bigSep Finset.univ fun c : Dev nD => payToks (F := F) c) ∗ (bigSep Finset.univ fun c : Dev nD => iprop(semVal (cpC c 0) 0 ∗ semVal (cpC c 1) 0)))
    ⊢ bigSep Finset.univ (linear (F := F)) := by
  unfold linear
  simp only [bigSep_sep']
  exact .refl
def G' (c : Dev nD) : sProp 𝕄 := iprop(∃ K, records m K ∗ linear (F := F) c)
theorem ghost_intro (c : Dev nD) : iprop(records m K ∗ linear (F := F) c) ⊢ G' m c := by
  unfold G'
  iintro H
  iexists K
  iexact H

theorem regroup :
    (bigSep Finset.univ fun c : Dev nD => iprop((bigSep Finset.univ fun k : CI => iprop(∃ κ : ℕ, cellInv ER (sched m) κ (kcell (c, k))))
          ∗ (bigSep Finset.univ fun k : CI => iprop(atPos (ER (F := F)) (kcell (c, k)) 0 ∅ 0 ∗ reached (ER (F := F)) (kcell (c, k)) 0))
          ∗ toks (F := F) c ∗ (semVal (cpC c 0) 0 ∗ semVal (cpC c 1) 0)) : sProp 𝕄)
      ⊢ bigSep Finset.univ (G' m) := by
  rw [bigSep_sep', bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun k : CI => (atPos (ER (F := F)) (kcell (c, k)) 0 ∅ 0 : sProp 𝕄)) (fun k => reached (ER (F := F)) (kcell (c, k)) 0)),
    bigSep_sep', ← bigSep_univ_prod (fun ck : Dev nD × CI => (reached (ER (F := F)) (kcell ck) 0 : sProp 𝕄)), toks_around]
  iintro ⟨HI, ⟨Hat, #HR⟩, Htok, Hcp⟩
  ihave HK := (BI.bigSep_exists_pi Finset.univ (fun (ck : Dev nD × CI) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (linear_all (F := F))
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit the launch deals -/

theorem launch_bar (d : Fin 3) (c : Dev nD) :
    (Pipeline.launchCred (fun e => tallyAt (barC (peer d e)) () 1) c : sProp 𝕄) ⊢ cred (tallyAt (barC c) () 1) :=
  Pipeline.launchCred_tallyAt (.reg barS) (peer d) (peer (opp d)) (opp_peer d) (peer_opp d) () 1 c
theorem launch_recv (i : Msg) (c : Dev nD) :
    (Pipeline.launchCred (fun e => tallyAt (recvC (tgt i e) i) () (amt i)) c : sProp 𝕄) ⊢ cred (tallyAt (recvC c i) () (amt i)) :=
  Pipeline.launchCred_tallyAt (.dma (sR i)) (peer (dir i)) (peer (opp (dir i))) (opp_peer _) (peer_opp _) () (amt i) c

theorem creds (c : Dev nD) :
    (Pipeline.launchCred OB3 c : sProp 𝕄) ⊢ iprop(cred (tallyAt (barC c) () 3) ∗ bigSep Finset.univ fun i : Msg => cred (tallyAt (recvC c i) () (amt i))) := by
  have h3 : (tallyAt (barC c) () 3 : CellTallies nD τ sig Unit) = (tallyAt (barC c) () 1 + tallyAt (barC c) () 1) + tallyAt (barC c) () 1 := by
    exact ((congrArg (· + tallyAt (barC c) () 1) (tallyAt_add (barC c) () 1 1)).trans (tallyAt_add (barC c) () 2 1)).symm
  have hO : (OB3 : Dev nD → CellTallies nD τ sig Unit) = fun e => ((∑ i ∈ (Finset.univ : Finset Msg), tallyAt (recvC (tgt i e) i) () (amt i)) + tallyAt (barC (peer 2 e)) () 1
    + tallyAt (barC (peer 0 e)) () 1) + tallyAt (barC (peer 1 e)) () 1 := rfl
  rw [hO, Pipeline.launchCred_add, Pipeline.launchCred_add, Pipeline.launchCred_add, Pipeline.launchCred_sum, h3]
  iintro ⟨⟨⟨HR, H2⟩, H0⟩, H1⟩
  isplitl [H2 H0 H1]
  · iapply (cred_add _ _).2
    isplitl [H2 H0]
    · iapply (cred_add _ _).2
      isplitl [H2]
      · iapply (launch_bar (F := F) 2 c); iexact H2
      · iapply (launch_bar (F := F) 0 c); iexact H0
    · iapply (launch_bar (F := F) 1 c); iexact H1
  · iapply (show _ ⊢ _ from bigSep_mono fun i _ => launch_recv (F := F) i c)
    iexact HR

end Cert.KProof
-- ==== Proof.Split.lean ====
module

public import proofs.«01_k».proof.Proof.Fund
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## A buffer and its parts -/

theorem ex_intro {A : Type} (P : A → sProp 𝕄) (a : A) : P a ⊢ iprop(∃ x, P x) := by
  iintro H; iexists a; iexact H

/-- A buffer at some contents is its parts, each at some contents. -/
theorem parts_eq {ℓ : Loc nD τ sig} {I : Type} [Fintype I] [DecidableEq I] (K : I → Finset ((ℓ.ty).shape.Idx))
    (hd : ∀ i i', i ≠ i' → Disjoint (K i) (K i')) (hc : ∀ j, ∃ i, j ∈ K i) :
    (iprop(∃ f : Buf (Elt F) ℓ, ℓ ↦{fullShare} f) : sProp 𝕄) = bigSep Finset.univ fun i => iprop(∃ f : Buf (Elt F) ℓ, ℓ ↦[K i]{fullShare} f) := by
  have hU : Finset.univ.biUnion K = Finset.univ := by
    ext j; obtain ⟨i, hi⟩ := hc j
    exact ⟨fun _ => Finset.mem_univ _, fun _ => Finset.mem_biUnion.mpr ⟨i, Finset.mem_univ _, hi⟩⟩
  have hf (f : Buf (Elt F) ℓ) : (ℓ ↦{fullShare} f : sProp 𝕄) = bigSep Finset.univ fun i => ℓ ↦[K i]{fullShare} f := by
    rw [← pointsTo_biUnion Finset.univ K (fun i _ i' _ h => hd i i' h), hU]
  refine both ?_ ?_
  · iintro ⟨%f, H⟩
    ihave H := (Entails.of_eq (hf f)) $$ H
    iapply (show _ ⊢ _ from bigSep_mono fun i _ => ex_intro (F := F) (fun f : Buf (Elt F) ℓ => ℓ ↦[K i]{fullShare} f) f)
    iexact H
  · iintro H
    ihave H := (BI.bigSep_exists_pi Finset.univ fun (i : I) (f : Buf (Elt F) ℓ) => (ℓ ↦[K i]{fullShare} f : sProp 𝕄)) $$ H
    icases H with ⟨%fs, H⟩
    ihave H := (pointsTo_biUnion_join Finset.univ K fs (Classical.arbitrary _) (fun i _ i' _ h => hd i i' h)) $$ H
    icases H with ⟨%g, -, H⟩
    iexists g
    rw [hU]
    iexact H

theorem half_disjoint (p p' : Fin 8 × Fin 2) (h : p ≠ p') : Disjoint (rHalf p.1 p.2).set (rHalf p'.1 p'.2).set := by
  rw [Finset.disjoint_left]
  intro i h0 h1
  have a0 := (Rect.mem_set_unit.mp h0) 0
  have b0 := (Rect.mem_set_unit.mp h1) 0
  have a := (Rect.mem_set_unit.mp h0) 1
  have b := (Rect.mem_set_unit.mp h1) 1
  simp at a b a0 b0
  exact h (Prod.ext (Fin.ext (by omega)) (Fin.ext (by omega)))
theorem half_cover (j : S8x1024x1024.Idx) : ∃ p : Fin 8 × Fin 2, j ∈ (rHalf p.1 p.2).set := by
  have h1 : (j 1).val < 1024 := (j 1).isLt
  have h2 : (j 2).val < 1024 := (j 2).isLt
  refine ⟨(⟨(j 0).val, (j 0).isLt⟩, ⟨(j 1).val / 512, by omega⟩), Rect.mem_set_unit.mpr ?_⟩
  simp only [Fin.forall_fin_succ]
  simp
  omega

theorem wl_parts (c : Dev nD) : (iprop(∃ f : Buf (Elt F) ((c : Thread nD τ).loc cc0_scratch1), ((c : Thread nD τ).loc cc0_scratch1) ↦{fullShare} f) : sProp 𝕄)
    = bigSep Finset.univ fun t : Fin 8 => iprop(slotO (F := F) c (.inl (t, .lt)) ∗ slotO (F := F) c (.inl (t, .lb))) := by
  have e : ∀ t b, (half wlM t b).view.set = (rHalf t b).set := fun t b => (Memref.set_view_squeeze ..).trans (View.set_slice_whole _ _)
  have h := parts_eq (F := F) (ℓ := (c : Thread nD τ).loc cc0_scratch1) (fun p : Fin 8 × Fin 2 => (half wlM p.1 p.2).view.set)
    (fun p p' hp => by rw [e, e]; exact half_disjoint p p' hp) (fun j => by obtain ⟨p, hp⟩ := half_cover j; exact ⟨p, by rw [e]; exact hp⟩)
  rw [h, bigSep_univ_prod]
  exact bigSep_congr fun t _ => BI.bigSep_fin_two _

theorem wr_parts (c : Dev nD) : (iprop(∃ f : Buf (Elt F) ((c : Thread nD τ).loc cc0_scratch2), ((c : Thread nD τ).loc cc0_scratch2) ↦{fullShare} f) : sProp 𝕄)
    = bigSep Finset.univ fun t : Fin 8 => iprop(slotO (F := F) c (.inl (t, .rt)) ∗ slotO (F := F) c (.inl (t, .rb))) := by
  have e : ∀ t b, (half wrM t b).view.set = (rHalf t b).set := fun t b => (Memref.set_view_squeeze ..).trans (View.set_slice_whole _ _)
  have h := parts_eq (F := F) (ℓ := (c : Thread nD τ).loc cc0_scratch2) (fun p : Fin 8 × Fin 2 => (half wrM p.1 p.2).view.set)
    (fun p p' hp => by rw [e, e]; exact half_disjoint p p' hp) (fun j => by obtain ⟨p, hp⟩ := half_cover j; exact ⟨p, by rw [e]; exact hp⟩)
  rw [h, bigSep_univ_prod]
  exact bigSep_congr fun t _ => BI.bigSep_fin_two _

theorem wd_parts (c : Dev nD) : (iprop(∃ f : Buf (Elt F) ((c : Thread nD τ).loc cc0_scratch3), ((c : Thread nD τ).loc cc0_scratch3) ↦{fullShare} f) : sProp 𝕄)
    = bigSep Finset.univ fun t : Fin 8 => iprop(slotO (F := F) c (.inl (t, .f)) ∗ slotO (F := F) c (.inl (t, .g))) := by
  have e : ∀ t b, (half wdM t b).view.set = (rHalf t b).set := fun t b => (Memref.set_view_squeeze ..).trans (View.set_slice_whole _ _)
  have h := parts_eq (F := F) (ℓ := (c : Thread nD τ).loc cc0_scratch3) (fun p : Fin 8 × Fin 2 => (half wdM p.1 p.2).view.set)
    (fun p p' hp => by rw [e, e]; exact half_disjoint p p' hp) (fun j => by obtain ⟨p, hp⟩ := half_cover j; exact ⟨p, by rw [e]; exact hp⟩)
  rw [h, bigSep_univ_prod]
  exact bigSep_congr fun t _ => BI.bigSep_fin_two _

theorem wf_parts (c : Dev nD) : (iprop(∃ f : Buf (Elt F) ((c : Thread nD τ).loc cc0_scratch4), ((c : Thread nD τ).loc cc0_scratch4) ↦{fullShare} f) : sProp 𝕄)
    = bigSep Finset.univ fun t : Fin 8 => iprop(∃ f, wfT (F := F) c t fullShare f) :=
  parts_eq (F := F) (ℓ := (c : Thread nD τ).loc cc0_scratch4) (fun t : Fin 8 => (rTile t).set)
    (fun t t' h => by
      rw [Finset.disjoint_left]
      intro i h0 h1
      have a := (Rect.mem_set_unit.mp h0) 1
      have b := (Rect.mem_set_unit.mp h1) 1
      simp at a b
      exact h (Fin.ext (by omega)))
    (fun (j : S1024x8192.Idx) => by
      have h0 : (j 0).val < 1024 := (j 0).isLt
      have h1 : (j 1).val < 8192 := (j 1).isLt
      refine ⟨⟨(j 1).val / 1024, by omega⟩, Rect.mem_set_unit.mpr ?_⟩
      simp only [Fin.forall_fin_succ]
      simp
      omega)

/-- The four devices, seen from `c`. -/
theorem devs4 (c : Dev nD) (Φ : Dev nD → sProp 𝕄) : bigSep Finset.univ Φ = iprop(Φ c ∗ Φ (peer 0 c) ∗ Φ (peer 1 c) ∗ Φ (peer 2 c)) :=
  bigSep_univ_eq_bigSepL [c, peer 0 c, peer 1 c, peer 2 c] (by revert c; decide) (by revert c; decide) Φ

theorem xf_parts (c : Dev nD) : (iprop(∃ f : Buf (Elt F) ((c : Thread nD τ).loc cc0_scratch5), ((c : Thread nD τ).loc cc0_scratch5) ↦{fullShare} f) : sProp 𝕄)
    = iprop((∃ f, xfR (F := F) c c f) ∗ (∃ f, xfR (F := F) c (peer 0 c) f) ∗ (∃ f, xfR (F := F) c (peer 1 c) f) ∗ (∃ f, xfR (F := F) c (peer 2 c) f)) := by
  have h := parts_eq (F := F) (ℓ := (c : Thread nD τ).loc cc0_scratch5) (fun d : Dev nD => (rXf d).set)
    (fun t t' h => by
      rw [Finset.disjoint_left]
      intro i h0 h1
      have a := (Rect.mem_set_unit.mp h0) 0
      have b := (Rect.mem_set_unit.mp h1) 0
      simp at a b
      exact h (Fin.ext (by omega)))
    (fun (j : S4096x1024.Idx) => by
      have h0 : (j 0).val < 4096 := (j 0).isLt
      have h1 : (j 1).val < 1024 := (j 1).isLt
      refine ⟨⟨(j 0).val / 1024, by show _ < 4; omega⟩, Rect.mem_set_unit.mpr ?_⟩
      simp only [Fin.forall_fin_succ]
      simp
      omega)
  rw [h]
  exact devs4 c _

theorem xg_parts (c : Dev nD) : (iprop(∃ f : Buf (Elt F) ((c : Thread nD τ).loc cc0_scratch0), ((c : Thread nD τ).loc cc0_scratch0) ↦{fullShare} f) : sProp 𝕄)
    = iprop(xgO (F := F) c ∗ slotO (F := F) c (.inr 1) ∗ slotO (F := F) c (.inr 0) ∗ slotO (F := F) c (.inr 2)) := by
  have e : ∀ d : Dev nD, (xgSlot d).view.set = (rXg d).set := fun d => (Memref.set_view_squeeze ..).trans (View.set_slice_whole _ _)
  have h := parts_eq (F := F) (ℓ := (c : Thread nD τ).loc cc0_scratch0) (fun d : Dev nD => (xgSlot d).view.set)
    (fun t t' h => by
      rw [e, e, Finset.disjoint_left]
      intro i h0 h1
      have a := (Rect.mem_set_unit.mp h0) 0
      have b := (Rect.mem_set_unit.mp h1) 0
      simp at a b
      exact h (Fin.ext (by omega)))
    (fun (j : S4x1024x1024.Idx) => by
      have h1 : (j 1).val < 1024 := (j 1).isLt
      have h2 : (j 2).val < 1024 := (j 2).isLt
      refine ⟨⟨(j 0).val, (j 0).isLt⟩, ?_⟩
      rw [e]
      refine Rect.mem_set_unit.mpr ?_
      simp only [Fin.forall_fin_succ]
      simp
      omega)
  rw [h]
  exact devs4 c _

theorem six_pc (Φ : Msg → sProp 𝕄) :
    iprop((bigSep Finset.univ fun t : Fin 8 => iprop(Φ (.inl (t, .lt)) ∗ Φ (.inl (t, .lb)))) ∗ (bigSep Finset.univ fun t : Fin 8 => iprop(Φ (.inl (t, .rt)) ∗ Φ (.inl (t, .rb))))
      ∗ (bigSep Finset.univ fun t : Fin 8 => iprop(Φ (.inl (t, .f)) ∗ Φ (.inl (t, .g))))) = bigSep Finset.univ fun t : Fin 8 => pc t Φ := by
  unfold pc
  simp only [bigSep_sep']
  refine both ?_ ?_
  · iintro ⟨⟨H1, H2⟩, ⟨H3, H4⟩, H5, H6⟩
    iframe H1 H2 H3 H4 H5
    iexact H6
  · iintro ⟨H1, H2, H3, H4, H5, H6⟩
    iframe H1 H2 H3 H4 H5
    iexact H6

/-- The kernel's own buffers, in the parts the messages move. -/
def Bufs (c : Dev nD) : sProp 𝕄 :=
  iprop((bigSep Finset.univ fun t : Fin 8 => iprop(∃ f, wfT (F := F) c t fullShare f)) ∗ (bigSep Finset.univ fun t : Fin 8 => pc t (slotO (F := F) c))
    ∗ (xgO (F := F) c ∗ slotO (F := F) c (.inr 1) ∗ slotO (F := F) c (.inr 0) ∗ slotO (F := F) c (.inr 2))
    ∗ ((∃ f, xfR (F := F) c c f) ∗ (∃ f, xfR (F := F) c (peer 0 c) f) ∗ (∃ f, xfR (F := F) c (peer 1 c) f) ∗ (∃ f, xfR (F := F) c (peer 2 c) f))
    ∗ stgP (F := F) c)

theorem bufs_eq (c : Dev nD) :
    (Pipeline.scopedRest (Ix := Unit) (Name := ℕ) (U := UU) (Lvl := ℕ) (Val := Elt F) spec0 c : sProp 𝕄) = Bufs (F := F) c := by
  rw [scopedRest0_eq, wl_parts, wr_parts, wd_parts, wf_parts, xf_parts, xg_parts]
  unfold Bufs stgP
  rw [← six_pc]
  refine both ?_ ?_
  · iintro ⟨Hxg, Hwl, Hwr, Hwd, Hwf, Hxf, Hst⟩
    iframe Hxg Hwl Hwr Hwd Hwf Hxf
    iexact Hst
  · iintro ⟨Hwf, ⟨Hwl, Hwr, Hwd⟩, Hxg, Hxf, Hst⟩
    iframe Hxg Hwl Hwr Hwd Hwf Hxf
    iexact Hst

/-! ## The first state -/

theorem snd_all (c : Dev nD) : iprop((bigSep Finset.univ fun i : Msg => dutyTok (ER (F := F)) (sendC c i) 0 0)
      ∗ (bigSep Finset.univ fun i : Msg => dutyTok (ER (F := F)) (recvC (tgt i c) i) 0 0)
      ∗ (bigSep Finset.univ fun i : Msg => atPos (ER (F := F)) (sendC c i) 0 ∅ 0))
    ⊢ bigSep Finset.univ (sndT (F := F) c) := by
  unfold sndT
  simp only [bigSep_sep']
  exact .refl
theorem rcv_all (c : Dev nD) : iprop((bigSep Finset.univ fun i : Msg => cred (tallyAt (recvC c i) () (amt i)))
      ∗ (bigSep Finset.univ fun i : Msg => atPos (ER (F := F)) (recvC c i) 0 ∅ 0))
    ⊢ bigSep Finset.univ (rcvI (F := F) c) := by
  unfold rcvI
  simp only [bigSep_sep']
  exact .refl

theorem st_zero (c : Dev nD) :
    iprop(Bufs (F := F) c ∗ argX m c ∗ argW m c ∗ linear (F := F) c
      ∗ cred (tallyAt (barC c) () 3) ∗ (bigSep Finset.univ fun i : Msg => cred (tallyAt (recvC c i) () (amt i)))) ⊢ St m c 0 := by
  have hr := rest_nx (F := F) 0 fun t => iprop(∃ f, wfT c t fullShare f)
  rw [show nx (F := F) 0 (fun t => iprop(∃ f, wfT c t fullShare f)) = iprop(∃ f, wfT (F := F) c 1 fullShare f) from dif_pos (by decide)] at hr
  have hs := snd_all (F := F) c
  have hv := rcv_all (F := F) c
  rw [msgs (sndT (F := F) c), tiles_first fun t => pc t (sndT (F := F) c)] at hs
  rw [msgs (rcvI (F := F) c)] at hv
  unfold St Bufs linear payToks Start Tail barI
  rw [if_pos rfl, bigSep_CI, fam3, tiles_first, show rest (0 : ℕ) (fun t => iprop(∃ f, wfT (F := F) c t fullShare f)) = _ from hr, msgs (slotO (F := F) c)]
  iintro ⟨⟨⟨W0, W1, WR⟩, HS, ⟨G0, G1, G2, G3⟩, ⟨X0, X1, X2, X3⟩, Hst⟩, HX, HW, ⟨⟨Ab, As, Ar⟩, ⟨⟨D0, D1, D2⟩, Ts, Tr⟩, Hcp⟩, HB, HC⟩
  ihave Hs := hs $$ [As Ts Tr]
  · iframe As Ts Tr
  ihave Hv := hv $$ [HC Ar]
  · iframe HC Ar
  unfold pc
  icases Hs with ⟨⟨⟨S0, S1, S2, S3, S4, S5⟩, SR⟩, Y0, Y1, Y2⟩
  icases Hv with ⟨V, V0, V1, V2⟩
  iframe
  isplitl [Ab]; · iexact Ab
  iexact WR

/-! ## The last state -/

theorem cur_last (c : Dev nD) : cur m c 8 = iprop(emp) := by unfold cur; rw [dif_neg (by decide)]
theorem before_all (P : Fin 8 → sProp 𝕄) : before 8 P = bigSep Finset.univ P := by
  unfold before; rw [Finset.filter_true_of_mem fun t _ => t.isLt]

theorem xgR_slot (c : Dev nD) (j : Fin 3) : xgR m c (peer (opp j) c) ⊢ slotO (F := F) c (.inr j) := dstP_slotO m c (.inr j)
theorem xgR_own (c : Dev nD) : xgR m c c ⊢ xgO (F := F) c := by
  unfold xgO xgR
  iintro H; iexists _; iexact H
theorem src_rows (c : Dev nD) (j : Fin 3) : srcP m c (.inr j) ⊢ iprop(∃ f, xfR (F := F) c (peer j c) f) := by
  rw [← x_src]
  iintro H; iexists _; iexact H
theorem done_all (c : Dev nD) : bigSep Finset.univ (doneS (F := F) c)
    ⊢ iprop((bigSep Finset.univ fun i : Msg => semVal (sendC c i) 0) ∗ (bigSep Finset.univ fun i : Msg => semVal (recvC c i) 0)) := by
  unfold doneS
  simp only [bigSep_sep']
  exact .refl

theorem st_last (c : Dev nD) : St m c 8 ⊢ iprop((argX m c ∗ argW m c) ∗ semVal (barC c) 0
    ∗ (((bigSep Finset.univ fun i : Msg => semVal (sendC c i) 0) ∗ (bigSep Finset.univ fun i : Msg => semVal (recvC c i) 0)) ∗ (semVal (cpC c 0) 0 ∗ semVal (cpC c 1) 0))
    ∗ Bufs (F := F) c) := by
  have hd := done_all (F := F) c
  rw [msgs (doneS (F := F) c)] at hd
  unfold St base xDn xDn2 xRest Bufs Done
  rw [if_neg (by decide), cur_last, before_all]
  simp only [bigSep_sep' Finset.univ fun t : Fin 8 => iprop(∃ f, wfT (F := F) c t fullShare f), bigSep_sep' Finset.univ fun t : Fin 8 => pc t (slotO (F := F) c)]
  iintro ⟨⟨HX, HW, Hst, Hcp⟩, ⟨⟨X0, Z0⟩, ⟨X1, Z1⟩, GL, GR⟩, ⟨⟨X2, Z2⟩, GD⟩, ⟨Xc, Gc, Hb⟩, -, ⟨HT, HS, HD⟩⟩
  ihave Hd := hd $$ [Z0 Z1 Z2 HD]
  · iframe HD Z0 Z1 Z2
  isplitl [HX HW]; · iframe HX HW
  isplitl [Hb]; · iexact Hb
  isplitl [Hd Hcp]; · iframe Hd Hcp
  iframe HT HS Hst
  isplitl [GL GR GD Gc]
  · isplitl [Gc]; · iapply (xgR_own m c); iexact Gc
    isplitl [GR]; · iapply (xgR_slot m c 1); iexact GR
    isplitl [GL]; · iapply (xgR_slot m c 0); iexact GL
    iapply (xgR_slot m c 2); iexact GD
  · isplitl [Xc]; · iexists _; iexact Xc
    isplitl [X0]; · iapply (src_rows m c 0); iexact X0
    isplitl [X1]; · iapply (src_rows m c 1); iexact X1
    iapply (src_rows m c 2); iexact X2

end Cert.KProof
-- ==== Proof.Run.lean ====
module

public import proofs.«01_k».proof.Proof.Split
public import Idealize.ShloMosaic.Lib.Pipeline.Value
public import Idealize.ShloMosaic.Lib.Pipeline.CollectiveSegs
public import proofs.«01_k».proof.Proof.Gen.KernelIdeal.Frame

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The pipeline's proof data -/

abbrev tq (t : Fin cfg0.N) : Fin 8 := ⟨t.val, lt_of_lt_of_eq t.isLt N_0⟩

/-- The result's block on device `c` at point `t`. -/
def outAt (c : Dev nD) (t : Fin cfg0.N) : FVec F S1024x1024 .f32 := acc6 m c (tq t) (iblk m c 0 t) (iblk m c 1 t)

def ΦN (c : Dev nD) (n : ℕ) : sProp 𝕄 := iprop(∃ K, Ctx m K ∗ St m c n)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => outAt m c t
  Φ t := ΦN m c t.val
  q _ := fullShare
  owed t := OwN c t.val

theorem before_0 (c : Dev nD) (t : Fin cfg0.N) (d) : (dats m ρ 0 c).before (0 : Fin 3) t d = iblk m c 0 t :=
  ((dats m ρ 0 c).before_in_eq_fetched 0 rfl (fun _ => rfl) (fun _ _ _ => rfl) (fun t => rfl) t d).trans rfl
theorem before_1 (c : Dev nD) (t : Fin cfg0.N) (d) : (dats m ρ 0 c).before (1 : Fin 3) t d = iblk m c 1 t :=
  ((dats m ρ 0 c).before_in_eq_fetched 1 rfl (fun _ => rfl) (fun _ _ _ => rfl) (fun t => rfl) t d).trans rfl

/-! ## The body at a point -/

theorem coords_val : ∀ t : Fin cfg0.N, (grid0.coords t 0).val = t.val := by decide

def bodyPre (c : Dev nD) (t : Fin cfg0.N) : sProp 𝕄 :=
  iprop(ΦN m c t.val ∗ (dats m ρ 0 c).owesAt () t.castSucc
    ∗ (∃ d, owns (c : Thread nD τ) (st0_0 t) fullShare ((dats m ρ 0 c).before (0 : Fin 3) t d))
    ∗ (∃ d, owns (c : Thread nD τ) (st0_1 t) fullShare ((dats m ρ 0 c).before (1 : Fin 3) t d))
    ∗ (∃ d, owns (c : Thread nD τ) (st0_2 t) fullShare ((dats m ρ 0 c).before (2 : Fin 3) t d)))
def bodyPost (c : Dev nD) (t : Fin cfg0.N) : sProp 𝕄 :=
  iprop(ΦN m c (t.val + 1) ∗ (dats m ρ 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (outAt m c t))

theorem owes_in (c : Dev nD) (t : Fin cfg0.N) : (dats m ρ 0 c).owesAt () t.castSucc ⊢ owesE (F := F) c (OwN c t.val) := by
  unfold Dat.owesAt Pipeline.owesWithin owesE
  iintro ⟨%W, %hW, HO⟩
  iexists W; iexact HO
theorem owes_out (c : Dev nD) (t : Fin cfg0.N) : owesE (F := F) c (OwN c (t.val + 1)) ⊢ (dats m ρ 0 c).owesAt () t.succ := by
  unfold Dat.owesAt Pipeline.owesWithin owesE
  iintro ⟨%W, HO⟩
  iexists W
  isplitr; · ipureintro; exact fun _ _ => Or.inl trivial
  iexact HO

theorem sound_body (c : Dev nD) (t : Fin cfg0.N) : bodyPre m ρ c t
    ⊢ wp frame (wpE (defs₀ (F := F)) 𝒱₀ (c : Thread nD τ) none) Set.univ (bodyAt0 (F := F) t) (fun _ => bodyPost m ρ c t) := by
  unfold bodyPre bodyPost ΦN outAt
  simp only [before_0, before_1]
  unfold bodyAt0
  rw [cc0_body_eq_skeleton]
  iintro ⟨⟨%K, #HC, HS⟩, HO, ⟨%d0, H0⟩, ⟨%d1, H1⟩, ⟨%d2, H2⟩⟩
  ihave HO := (owes_in m ρ c t) $$ HO
  iapply (body_spec m K (grid0.coords t) (tq t) (coords_val t) c _ _ _ _ _ _ fullShare fullShare (iblk m c 0 t) (iblk m c 1 t)) $$ [HO HS H0 H1 H2]
  · iframe HC HO HS H0 H1
    iexists _; iexact H2
  iintro ⟨HO, HS, H0, H1, H2⟩
  isplitl [HS]
  · iexists K
    isplitr; · iexact HC
    iexact HS
  isplitl [HO]; · iapply (owes_out m ρ c t); iexact HO
  iframe H0 H1
  iexact H2

set_option maxRecDepth 4000 in
/-- The library's body obligation on device `c`. -/
theorem body_obligation (c : Dev nD) : BodyObligation (dats (F := F) m ρ 0 c) (defs₀ (F := F)) 𝒱₀ () Set.univ := fun t => by
  rw [bigSep_W0, bigSep_W0]
  exact sound_body m ρ c t

/-! ## The launch -/

theorem share_eq (c : Dev nD) (w : Fin cfg0.W) : (dats m ρ 0 c).share w = fullShare := by unfold Dat.share; split <;> rfl

theorem lvS_stage : ∀ (w : Fin cfg0.W) (s : Fin (cfg0.win w).nbuf), lvS (.dma ((cfg0.win w).sem s)) = 0 := by
  intro w s
  have h : ((cfg0.win w).sem s).val < 4 := stage_sem_lt w s
  dsimp only [lvS]
  rw [show dec ((cfg0.win w).sem s).val = none from if_pos h]

theorem waits (c : Dev nD) : (levAts L lv : sProp 𝕄) ⊢ Pipeline.cellsWaits cfgs (dats m ρ) () 0 c :=
  Pipeline.cellsWaits_intro cfgs (dats m ρ) () 0 c fun w s t => by
    show _ ⊢ MayWait (c : Thread nD τ) _ () (OwN c t.val)
    unfold OwN
    split
    · exact mayWait_OB3 c _ (lvS_stage w s)
    · exact mayWait_Ow c _ _ fun i _ => by rw [lvS_stage w s]; exact lt_trans Nat.zero_lt_one (lvl_pos i)

/-- What device `c` starts with. -/
def start (c : Dev nD) : sProp 𝕄 :=
  iprop(∃ K, Ctx m K ∗ argX m c ∗ argW m c ∗ linear (F := F) c
    ∗ cred (tallyAt (barC c) () 3) ∗ (bigSep Finset.univ fun i : Msg => cred (tallyAt (recvC c i) () (amt i))))

theorem start_intro (c : Dev nD) :
    iprop(Pipeline.unscopedRestP Pipeline.Prefetch.none cfg0.spec c (fun b => m ((c : Thread nD τ).loc b)) ∗ levAts L lv
        ∗ Pipeline.launchCred OB3 c ∗ prngReg c (ρ c) ∗ G' m c)
      ⊢ |={Set.univ}=> iprop(start m c ∗ emp) := by
  rw [Pipeline.unscopedRestP_none, unscopedRest0_eq]
  unfold G' start Ctx argX argW
  iintro ⟨⟨HX, HW⟩, #Hlev, Hcr, -, ⟨%K, #HR, HL⟩⟩
  ihave Hc := (creds (F := F) c) $$ Hcr
  icases Hc with ⟨H1, HN⟩
  imodintro
  isplitl
  · iexists K
    isplitr
    · isplitr; · iexact HR
      iexact Hlev
    iframe HX HW HL H1
    iexact HN
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = ΦN m c 0 from rfl,
    show Pipeline.scopedRest (Ix := Unit) (Name := ℕ) (U := UU) (Lvl := ℕ) (Val := Elt F) cfg0.spec c = Bufs (F := F) c from bufs_eq c]
  unfold start ΦN
  iintro ⟨⟨%K, #HC, HX, HW, HL, H1, HN⟩, -, HB⟩
  iexists K
  isplitr; · iexact HC
  iapply (st_zero m c)
  iframe HB HX HW HL H1
  iexact HN

theorem phi_exit (c : Dev nD) :
    (dats m ρ 0 c).Φ (Fin.last cfg0.N) ⊢ iprop(((argX m c ∗ argW m c) ∗ unscopedSems0 c) ∗ Pipeline.ownSems0 osem c ∗ Pipeline.scopedRest cfg0.spec c) := by
  rw [show (dats m ρ 0 c).Φ (Fin.last cfg0.N) = ΦN m c 8 from congrArg (ΦN m c) N_0,
    show Pipeline.scopedRest (Ix := Unit) (Name := ℕ) (U := UU) (Lvl := ℕ) (Val := Elt F) cfg0.spec c = Bufs (F := F) c from bufs_eq c,
    ownSems0_eq, unscopedSems0_eq]
  unfold ΦN
  iintro ⟨%K, -, HS⟩
  ihave H := (st_last m c) $$ HS
  icases H with ⟨HA, HB, HO, HR⟩
  isplitl [HA HB]
  · isplitl [HA]; · iexact HA
    iexact HB
  isplitl [HO]; · iexact HO
  iexact HR

/-! ## The run -/

/-- What window `w`'s array holds on device `c` after the run. -/
def finalA (c : Dev nD) (w : Fin cfg0.W) : Buf (Elt F) ((cfg0.win w).arr.view.loc (c : Thread nD τ)) := (dats m ρ 0 c).arrAt w cfg0.N

/-- The first two arguments, and the semaphores the launch does not own, at the end. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c.tc : Thread nD τ), sm) = 0

theorem read_exit (c : Dev nD) (s' : Phys nD τ sig (Elt F)) :
    iprop(((argX m c ∗ argW m c) ∗ unscopedSems0 c) ∗ emp ∗ SI s') ⊢ (|={Set.univ}=> iprop(⌜QY m c s'.mem⌝ ∗ SI s') : sProp 𝕄) := by
  unfold argX argW
  iintro ⟨⟨⟨HX, HW⟩, Hu⟩, -, HSI⟩
  icombine HSI HX gives %hx
  icombine HSI HW gives %hw
  imod (Pipeline.unscopedSems0_read (X := unscopedSems0 c) (c := c) fupd_intro s') $$ [Hu HSI] with ⟨%hu, HSI⟩
  · isplitl [Hu] <;> iassumption
  imodintro
  isplitr
  · ipureintro; exact ⟨⟨Buf.eq_of_forall_mem_univ hx, Buf.eq_of_forall_mem_univ hw⟩, hu⟩
  iexact HSI

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0) ∧ r.2.mem ((c : Thread nD τ).loc main_arg1) = m ((c : Thread nD τ).loc main_arg1)

set_option maxRecDepth 8000 in
/-- For any float values, from any memory with zero counters: every weakly fair execution of @main on the four devices
    terminates, every final state has each device's result array at the computed contents, the arguments unchanged and
    every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := OB3) (howed₀ := fun _ => rfl) (howedN := fun c => by
      show OwN c cfg0.N = 0
      rw [show OwN c cfg0.N = Ow (pend 8) c from by rw [show cfg0.N = 8 from N_0]; rfl, pend_last, Ow_empty])
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop((argX m c ∗ argW m c) ∗ unscopedSems0 c)) (Z := fun _ => iprop(emp))
    (hX := start_intro m ρ) (hin := phi0_intro m ρ) (hout := phi_exit m ρ)
    (QY := QY m)
    (hY := read_exit m)
    (hQ := fun _ h hs => ⟨fun c => ⟨(h c).1, (h c).2.2.1⟩, sem_eq_zero hs fun c => (h c).2.2.2⟩)

/-- The last two arguments hold after the run what they held. -/
theorem finalA_2 (c : Dev nD) : finalA m ρ c (0 : Fin 3) = m ((c : Thread nD τ).loc main_arg2) :=
  (dats (F := F) m ρ 0 c).arrAt_in (0 : Fin 3) rfl _
theorem finalA_3 (c : Dev nD) : finalA m ρ c (1 : Fin 3) = m ((c : Thread nD τ).loc main_arg3) :=
  (dats (F := F) m ρ 0 c).arrAt_in (1 : Fin 3) rfl _

end Cert.KProof
-- ==== Proof.Frames.lean ====
/- The three frames: each program runs on its mesh, its arguments end unchanged, every counter ends at zero. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.KProof

open Idealize.ShloMosaic Idealize.ShloMosaic.TcCoe Idealize.SL.Sem

/-- The arguments after a run, from what the run establishes of the windows. -/
theorem args_of {F : FTy → Type} [FloatOps F] {m : (ℓ : Loc Cert.KernelIdeal.nD Cert.KernelIdeal.τ Cert.KernelIdeal.sig) → Buf (Elt F) ℓ}
    {ρ : Dev Cert.KernelIdeal.nD → PrngReg} {r : PUnit × MemSt Cert.KernelIdeal.nD Cert.KernelIdeal.τ Cert.KernelIdeal.sig (Elt F)} (h : QC m ρ r)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h c).2.1, (h c).2.2, ((h c).1 0).trans (finalA_2 m ρ c), ((h c).1 1).trans (finalA_3 m ρ c)⟩

theorem frame_ideal : Cert.quiescent_KernelIdeal := fun m ρ _ =>
  (θ_run Cert.KernelIdeal.defs _ _).mono (fun _ h => ⟨args_of h.1, h.2⟩) (run_main (F := Ideal) m ρ)

/-! The kernel as printed has the idealized kernel's text. -/

theorem defs₀_eq : Cert.Kernel.defs₀ (F := Bits) = Cert.KernelIdeal.defs₀ := by
  unfold Cert.Kernel.defs₀ Cert.KernelIdeal.defs₀
  refine congrArg Defs.onTc ?_
  funext l a
  match l, a with
  | ⟨0, _⟩, (t, s) => exact rfl
theorem defs_eq : Cert.Kernel.defs (F := Bits) = Cert.KernelIdeal.defs := congrArg (Pipeline.defs Cert.KernelIdeal.pcfgs) defs₀_eq
theorem main_same : Cert.Kernel.main (F := Bits) = Cert.KernelIdeal.main := rfl

theorem run_congr {nD : _} {τ : _} {sig : _} {Val : _} {Λ : _} {d d' : Defs nD τ sig Val Λ} (hd : d = d')
    {p p' : (c : Thread nD τ) → Prog (TpuEff nD τ sig Val Λ c.2) PUnit} (hp : p = p')
    {s : MemSt nD τ sig Val} {Q : PUnit × MemSt nD τ sig Val → Prop} (h : θ_run d' p' s Q) : θ_run d p s Q := by subst hd hp; exact h

theorem frame_kernel : Cert.quiescent_Kernel := fun m ρ _ =>
  run_congr defs_eq (congrArg onTc main_same) ((θ_run Cert.KernelIdeal.defs _ _).mono (fun _ h => ⟨args_of h.1, h.2⟩) (run_main (F := Bits) m ρ))

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.KProof

end
-- ==== Proof.Blocks.lean ====
/- The blocks a step multiplies, read by coordinates, over any float values. -/
module

public import proofs.«01_k».proof.Proof.Body
public import Idealize.ShloMosaic.Lib.Pointwise

@[expose] public section

noncomputable section

namespace Cert.KProof

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- Device `d`'s rounded activations and weights, as plain functions of an index. -/
def xq (d : Dev nD) : S4096x1024.Idx → Elt F .fp8e4m3 := XF m d
def wq (d : Dev nD) : S1024x8192.Idx → Elt F .fp8e4m3 := WF m d

abbrev rowOf (c : Dev nD) (r : Fin 1024) : Fin 4096 := ⟨1024 * c.val + r.val, by have h : c.val < 4 := c.isLt; have := r.isLt; omega⟩
abbrev colOf (q : Fin 8) (n : Fin 1024) : Fin 8192 := ⟨1024 * q.val + n.val, by have := q.isLt; have := n.isLt; omega⟩
abbrev halfOf (b : Fin 2) (k : Fin 512) : Fin 1024 := ⟨512 * b.val + k.val, by have := b.isLt; have := k.isLt; omega⟩

theorem xgB_apply (c d : Dev nD) (r k : Fin 1024) : xgB m c d (ix3 0 r k) = xq m d (ix2 (rowOf c r) k) := by
  show xq m (⟨((rXg d).idx (ix3 0 r k) 0).val, _⟩ : Dev nD) (xIx c ((rXg d).idx (ix3 0 r k))) = _
  have hd : (⟨((rXg d).idx (ix3 0 r k) 0).val, ((rXg d).idx (ix3 0 r k) 0).isLt⟩ : Dev nD) = d := Fin.ext (by show d.val + 1 * 0 = d.val; omega)
  have hi : xIx c ((rXg d).idx (ix3 0 r k)) = ix2 (rowOf c r) k := by
    funext a
    match a with
    | ⟨0, _⟩ => exact Fin.ext (by show 1024 * c.val + (0 + 1 * r.val) = 1024 * c.val + r.val; omega)
    | ⟨1, _⟩ => exact Fin.ext (by show 0 + 1 * k.val = k.val; omega)
  rw [hi]
  exact congrArg (fun e => xq m e (ix2 (rowOf c r) k)) hd

theorem wfB_apply (c : Dev nD) (q : Fin 8) (k n : Fin 1024) : wfB m c q (ix2 k n) = wq m c (ix2 k (colOf q n)) := by
  show wq m c ((rTile q).idx (ix2 k n)) = _
  refine congrArg (wq m c) ?_
  funext a
  match a with
  | ⟨0, _⟩ => exact Fin.ext (by show 0 + 1 * k.val = k.val; omega)
  | ⟨1, _⟩ => exact Fin.ext (by show 1024 * q.val + 1 * n.val = 1024 * q.val + n.val; omega)

theorem half_ix (q : Fin 8) (b : Fin 2) (k : Fin 512) (n : Fin 1024) : tileIx ((rHalf q b).idx (ix3 0 k n)) = ix2 (halfOf b k) (colOf q n) := by
  funext a
  match a with
  | ⟨0, _⟩ => exact Fin.ext (by show 512 * b.val + 1 * k.val = 512 * b.val + k.val; omega)
  | ⟨1, _⟩ => exact Fin.ext (by show 1024 * (q.val + 1 * 0) + (0 + 1 * n.val) = 1024 * q.val + n.val; omega)

theorem wlB_apply (e : Dev nD) (q : Fin 8) (b : Fin 2) (k : Fin 512) (n : Fin 1024) :
    wlB m e q b (ix3 0 k n) = wq m e (ix2 (halfOf b k) (colOf q n)) := congrArg (wq m e) (half_ix q b k n)
theorem wrB_apply (e : Dev nD) (q : Fin 8) (b : Fin 2) (k : Fin 512) (n : Fin 1024) :
    wrB m e q b (ix3 0 k n) = wq m e (ix2 (halfOf b k) (colOf q n)) := congrArg (wq m e) (half_ix q b k n)

theorem wdB_apply (e : Dev nD) (q : Fin 8) (k n : Fin 1024) : wdB m e q (ix3 0 k n) = wq m e (ix2 k (colOf q n)) := by
  show wq m e (tileIx ((rTl q).idx (ix3 0 k n))) = _
  refine congrArg (wq m e) ?_
  funext a
  match a with
  | ⟨0, _⟩ => exact Fin.ext (by show 0 + 1 * k.val = k.val; omega)
  | ⟨1, _⟩ => exact Fin.ext (by show 1024 * (q.val + 1 * 0) + (0 + 1 * n.val) = 1024 * q.val + n.val; omega)

end Cert.KProof

end
-- ==== Proof.Acc.lean ====
/- What a step leaves, read by coordinates over the extended reals: a sum of four devices' products. -/
module

public import proofs.«01_k».proof.Proof.Blocks
public import Idealize.ShloMosaic.PureOps.Ideal
public import Idealize.ShloMosaic.Lib.Pointwise

@[expose] public section

noncomputable section

namespace Cert.KProof

open Cert.KernelIdeal Cert.KernelIdeal.Gen Idealize.ShloMosaic Idealize.ShloMosaic.TcCoe Idealize.SL.Sem

set_option maxRecDepth 16384

/-! ## The payloads at an index -/

theorem half_0 (k : Fin 512) : halfOf 0 k = ⟨k.val, lt_trans k.isLt (by decide)⟩ := Fin.ext (Nat.zero_add _)
theorem half_1 (k : Fin 512) : halfOf 1 k = ⟨512 + k.val, Nat.add_lt_add_left k.isLt 512⟩ := rfl

theorem pay10_at (v71 : Vec Ideal S1x1024x1024 .fp8e4m3) (v75 : Vec Ideal S1024x1024 .fp8e4m3) (r n : Fin 1024) :
    k0_pay10 v71 v75 (ix2 r n) = ∑ k : Fin 1024, (v71 (ix3 0 r k) * v75 (ix2 k n) : EReal) := by
  pointwise [k0_pay10]
theorem pay11_at (v81 : Vec Ideal S1024x1024 .f32) (v84 : Vec Ideal S1x1024x1024 .fp8e4m3) (v88 : Vec Ideal S1x512x1024 .fp8e4m3) (r n : Fin 1024) :
    k0_pay11 v81 v84 v88 (ix2 r n) = (v81 (ix2 r n) + ∑ k : Fin 512, (v84 (ix3 0 r (halfOf 0 k)) * v88 (ix3 0 k n) : EReal) : EReal) := by
  pointwise [k0_pay11]; simp only [half_0]
theorem pay13_at (v94 : FVec Ideal S1024x1024 .f32) (v96 : Vec Ideal S1x1024x1024 .fp8e4m3) (v100 : Vec Ideal S1x512x1024 .fp8e4m3) (r n : Fin 1024) :
    k0_pay13 v94 v96 v100 (ix2 r n) = (v94 (ix2 r n) + ∑ k : Fin 512, (v96 (ix3 0 r (halfOf 1 k)) * v100 (ix3 0 k n) : EReal) : EReal) := by
  pointwise [k0_pay13]; simp only [half_1]
theorem pay1_at (v190 : Vec Ideal S1024x1024 .f32) (v193 : Vec Ideal S1x1024x1024 .fp8e4m3) (v196 : Vec Ideal S1x1024x1024 .fp8e4m3) (r n : Fin 1024) :
    k0_pay1 v190 v193 v196 (ix2 r n) = (v190 (ix2 r n) + ∑ k : Fin 1024, (v193 (ix3 0 r k) * v196 (ix3 0 k n) : EReal) : EReal) := by
  pointwise [k0_pay1]
theorem pay18_at (v81 : Vec Ideal S1024x1024 .f32) (v84 : Vec Ideal S1x1024x1024 .fp8e4m3) (v88 : Vec Ideal S1x512x1024 .fp8e4m3) (r n : Fin 1024) :
    k0_pay18 v81 v84 v88 (ix2 r n) = (v81 (ix2 r n) + ∑ k : Fin 512, (v84 (ix3 0 r (halfOf 0 k)) * v88 (ix3 0 k n) : EReal) : EReal) := by
  pointwise [k0_pay18]; simp only [half_0]
theorem pay17_at (v : Vec Ideal S1024x1024 .f32) (x : Vec Ideal S1x1024x1024 .fp8e4m3) (w : Vec Ideal S1x512x1024 .fp8e4m3) (r n : Fin 1024) :
    k0_pay17 (k0_pay14 v) (k0_pay15 x) (k0_pay16 w) (ix2 r n) = (v (ix2 r n) + ∑ k : Fin 512, (x (ix3 0 r (halfOf 1 k)) * w (ix3 0 k n) : EReal) : EReal) := by
  pointwise [k0_pay17, k0_pay14, k0_pay15, k0_pay16]; simp only [half_1]
theorem pay12_at (v : Vec Ideal S1024x1024 .f32) (r n : Fin 1024) : k0_pay12 v (ix2 r n) = v (ix2 r n) := by
  pointwise [k0_pay12]

/-! ## The sum over the devices -/

variable (m : (ℓ : Loc nD τ sig) → Buf (Elt Ideal) ℓ)

/-- Device `d`'s share of the product at row `r` of device `c`'s rows and column `n` of tile `q`, and its two halves. -/
def part (c d : Dev nD) (q : Fin 8) (r n : Fin 1024) : EReal :=
  ∑ k : Fin 1024, (xq m d (ix2 (rowOf c r) k) * wq m d (ix2 k (colOf q n)) : EReal)
def hpart (c d : Dev nD) (q : Fin 8) (r n : Fin 1024) (b : Fin 2) : EReal :=
  ∑ k : Fin 512, (xq m d (ix2 (rowOf c r) (halfOf b k)) * wq m d (ix2 (halfOf b k) (colOf q n)) : EReal)

theorem part_halves (c d : Dev nD) (q : Fin 8) (r n : Fin 1024) : part m c d q r n = hpart m c d q r n 0 + hpart m c d q r n 1 := by
  unfold part hpart
  simp only [half_0, half_1]
  exact Fin.sum_univ_add (a := 512) (b := 512) fun k : Fin 1024 => (xq m d (ix2 (rowOf c r) k) * wq m d (ix2 k (colOf q n)) : EReal)

theorem sum_devs (f : Dev nD → EReal) (c : Dev nD) : ∑ d, f d = f c + f (peer 0 c) + f (peer 1 c) + f (peer 2 c) := by
  rw [show (∑ d, f d) = f 0 + f 1 + f 2 + f 3 from Fin.sum_univ_four f]
  have h : ∀ c : Dev nD, (c = 0 ∧ peer 0 c = 1 ∧ peer 1 c = 3 ∧ peer 2 c = 2) ∨ (c = 1 ∧ peer 0 c = 2 ∧ peer 1 c = 0 ∧ peer 2 c = 3)
      ∨ (c = 2 ∧ peer 0 c = 3 ∧ peer 1 c = 1 ∧ peer 2 c = 0) ∨ (c = 3 ∧ peer 0 c = 0 ∧ peer 1 c = 2 ∧ peer 2 c = 1) := by decide
  rcases h c with ⟨h, h0, h1, h2⟩ | ⟨h, h0, h1, h2⟩ | ⟨h, h0, h1, h2⟩ | ⟨h, h0, h1, h2⟩ <;> (rw [h0, h1, h2, h]; ac_rfl)

/-- The accumulator after the step's five products is the sum over the four devices. -/
theorem acc5_at (c : Dev nD) (q : Fin 8) (r n : Fin 1024) : acc5 m c q (ix2 r n) = ∑ d, part m c d q r n := by
  unfold acc5 acc4 acc3 acc2 acc1 acc0
  rw [pay1_at, pay18_at, pay17_at, pay13_at, pay12_at, pay11_at, pay10_at]
  simp only [xgB_apply, wfB_apply, wlB_apply, wrB_apply, wdB_apply]
  rw [sum_devs _ c, part_halves m c (peer 0 c), part_halves m c (peer 1 c)]
  show part m c c q r n + hpart m c (peer 1 c) q r n 0 + hpart m c (peer 0 c) q r n 1 + hpart m c (peer 1 c) q r n 1 + hpart m c (peer 0 c) q r n 0
    + part m c (peer 2 c) q r n = _
  ac_rfl

end Cert.KProof

end
-- ==== Proof.Final.lean ====
/- The array the run leaves on each device, over the extended reals. -/
module

public import proofs.«01_k».proof.Proof.Acc
public import proofs.«01_k».proof.Proof.Run
public import Idealize.ShloMosaic.Lib.Pipeline.ValueKit
public import Idealize.ShloMosaic.Lib.Pointwise

@[expose] public section

noncomputable section

namespace Cert.KProof

open Cert.KernelIdeal Cert.KernelIdeal.Gen Idealize.ShloMosaic Idealize.ShloMosaic.TcCoe Idealize.SL.Sem

set_option maxRecDepth 16384

/-- The epilogue on one element: the scale, then the gated unit with its argument clipped. -/
def epi (y a b : EReal) : EReal :=
  Ideal.div (y * (a * b)) (1 + Ideal.exp (0 - min (Ideal.ofBits .f32 0x42700000#32) (max (Ideal.ofBits .f32 0xC2700000#32) (y * (a * b)))))

theorem pay2_at (v : Vec Ideal S1024x1024 .f32) (a b : Elt Ideal .f32) (r n : Fin 1024) :
    k0_pay2 v a b (ix2 r n) = epi (v (ix2 r n)) a b := by
  pointwise [k0_pay2, epi]

variable (m : (ℓ : Loc nD τ sig) → Buf (Elt Ideal) ℓ) (ρ : Dev nD → PrngReg)

/-- The whole product at an element of device `c`'s rows. -/
def tot (c : Dev nD) (j : S1024x8192.Idx) : EReal :=
  ∑ d : Dev nD, ∑ k : Fin 1024, (xq m d (ix2 (rowOf c (j 0)) k) * wq m d (ix2 k (j 1)) : EReal)
/-- The scales device `c` reads. -/
def sx (c : Dev nD) : EReal := (m ((c : Thread nD τ).loc main_arg2) : S1.Idx → Elt Ideal .f32) one1
def sw (c : Dev nD) : EReal := (m ((c : Thread nD τ).loc main_arg3) : S1.Idx → Elt Ideal .f32) one1
/-- The result on device `c`. -/
def outW (c : Dev nD) : S1024x8192.Idx → EReal := fun j => epi (tot m c j) (sx m c) (sw m c)

theorem s1_eq (i j : S1.Idx) : i = j := by
  funext a
  match a with
  | ⟨0, _⟩ => exact Subsingleton.elim (α := Fin 1) _ _

theorem iblk_0 (c : Dev nD) (t : Fin cfg0.N) : (iblk m c 0 t : S1.Idx → Elt Ideal .f32) one1 = sx m c :=
  congrArg (m ((c : Thread nD τ).loc main_arg2) : S1.Idx → Elt Ideal .f32) (s1_eq _ _)
theorem iblk_1 (c : Dev nD) (t : Fin cfg0.N) : (iblk m c 1 t : S1.Idx → Elt Ideal .f32) one1 = sw m c :=
  congrArg (m ((c : Thread nD τ).loc main_arg3) : S1.Idx → Elt Ideal .f32) (s1_eq _ _)

theorem outAt_at (c : Dev nD) (t : Fin cfg0.N) (r n : Fin 1024) : outAt m c t (ix2 r n) = outW m c (ix2 r (colOf (tq t) n)) := by
  unfold outAt acc6 outW
  rw [pay2_at, acc5_at, iblk_0, iblk_1]
  rfl

theorem tf4_val : ∀ t : Fin cfg0.N, cc0_transform_4 (grid0.coords t) 1 = t.val := by decide

theorem final_2 (c : Dev nD) : finalA m ρ c (2 : Fin 3) = outW m c := by
  unfold finalA
  refine (dats m ρ 0 c).arrAt_eq_of_covers (2 : Fin 3) _ (by decide +kernel) fun t hf y => ?_
  blk_simp
  have hy : (y : S1024x1024.Idx) = ix2 (y 0) (y 1) := eq_ix2 y
  show outAt m c t y = _
  rw [hy]
  refine (outAt_at m c t (y 0) (y 1)).trans (congrArg (outW m c) ?_)
  have h0 : cc0_transform_4 (grid0.coords t) 0 = 0 := rfl
  have h1 : cc0_transform_4 (grid0.coords t) 1 = t.val := tf4_val t
  funext a
  match a with
  | ⟨0, _⟩ =>
    refine Fin.ext ?_
    show (y 0).val = cc0_transform_4 (grid0.coords t) 0 * 1024 + 1 * (y 0).val
    rw [h0]; omega
  | ⟨1, _⟩ =>
    refine Fin.ext ?_
    show 1024 * t.val + (y 1).val = cc0_transform_4 (grid0.coords t) 1 * 1024 + 1 * (y 1).val
    rw [h1]; omega

end Cert.KProof

end
-- ==== Proof.Algebra.lean ====
/- The whole array of the reference program over the extended reals, and each device's rows as its block. -/
module

public import proofs.«01_k».proof.Defs
public import proofs.«01_k».proof.Proof.Final
public import proofs.«01_k».proof.Proof.Frames
public import proofs.«01_k».proof.Proof.Gen.ReferenceIdeal.Run
public import Idealize.ShloMosaic.Lib.Layout
public import Idealize.ShloMosaic.Lib.Pointwise

@[expose] public section

noncomputable section

namespace Cert.KProof

open Idealize.ShloMosaic Idealize.ShloMosaic.TcCoe Idealize.SL.Sem

section Ref

open Cert.ReferenceIdeal Cert.ReferenceIdeal.Gen

/-- The scaled product, as the reference program composes it. -/
def refY (X : FVec Ideal S4096x4096 .f32) (W : FVec Ideal S4096x8192 .f32) (a b : FVec Ideal S1 .f32) : FVec Ideal S4096x8192 .f32 :=
  mulf (Host.dotGeneral dot_S4096x4096_S4096x8192_S4096x8192_1_0_0_1_n_n none X W)
    (broadcastInDim S4096x8192 ![0, 1] bcast_S1x1_S4096x8192_0_1 (broadcastInDim S1x1 ![1] bcast_S1_S1x1_1 (mulf a b)))

/-- The reference program's result. -/
def refV (X : FVec Ideal S4096x4096 .f32) (W : FVec Ideal S4096x8192 .f32) (a b : FVec Ideal S1 .f32) : FVec Ideal S4096x8192 .f32 :=
  Host.divf (refY X W a b) (addf (broadcastInDim S4096x8192 ![] bcast_S_S4096x8192 (constant S_ .f32 0x3F800000#32))
    (Host.exp (Host.negf (minimumf (broadcastInDim S4096x8192 ![] bcast_S_S4096x8192 (id (constant S_ .f32 0x42700000#32)))
      (maximumf (broadcastInDim S4096x8192 ![] bcast_S_S4096x8192 (id (constant S_ .f32 0xC2700000#32))) (refY X W a b))))))

theorem refV_at (X : FVec Ideal S4096x4096 .f32) (W : FVec Ideal S4096x8192 .f32) (a b : FVec Ideal S1 .f32) (R : Fin 4096) (N : Fin 8192) :
    refV X W a b (ix2 R N) = epi (∑ k : Fin 4096, (X (ix2 R k) * W (ix2 k N) : EReal)) (a one1) (b one1) := by
  pointwise [refV, refY, epi]
  rw [show (ix1 0 : S1.Idx) = one1 from s1_eq _ _, zero_sub]
  rfl

end Ref

open Cert.KernelIdeal

variable (m : (ℓ : Loc nD τ sig) → Buf (Elt Ideal) ℓ) (X : FVec Ideal ⟨2, ![4096, 4096]⟩ .f32) (W : FVec Ideal ⟨2, ![4096, 8192]⟩ .f32)

/-- Column `k` of device `d`'s columns, of the whole. -/
def lane (d : Dev nD) (k : Fin 1024) : Fin 4096 := ⟨d.val * 1024 + k.val, by have := d.isLt; have := k.isLt; have : nD = 4 := rfl; omega⟩

theorem xq_at (d : Dev nD) (h : m ((d.tc : Thread nD τ).loc main_arg0) = Layout.block ⟨2, ![4096, 1024]⟩ ⟨2, ![4096, 4096]⟩ 1 4 d X)
    (R : Fin 4096) (k : Fin 1024) : (xq m d (ix2 R k) : EReal) = X (ix2 R (lane d k)) := by
  have h1 : (xq m d (ix2 R k) : EReal) = (m ((d.tc : Thread nD τ).loc main_arg0) : S4096x1024.Idx → EReal) (ix2 R k) := rfl
  rw [h1, h]
  refine congrArg X ?_
  funext a
  match a with
  | ⟨0, _⟩ => exact Fin.ext rfl
  | ⟨1, _⟩ => exact Fin.ext rfl

theorem wq_at (d : Dev nD) (h : m ((d.tc : Thread nD τ).loc main_arg1) = Layout.block ⟨2, ![1024, 8192]⟩ ⟨2, ![4096, 8192]⟩ 0 4 d W)
    (k : Fin 1024) (N : Fin 8192) : (wq m d (ix2 k N) : EReal) = W (ix2 (lane d k) N) := by
  have h1 : (wq m d (ix2 k N) : EReal) = (m ((d.tc : Thread nD τ).loc main_arg1) : S1024x8192.Idx → EReal) (ix2 k N) := rfl
  rw [h1, h]
  refine congrArg W ?_
  funext a
  match a with
  | ⟨0, _⟩ => exact Fin.ext rfl
  | ⟨1, _⟩ => exact Fin.ext rfl

/-- The four devices' lanes are the whole contracted axis. -/
theorem sum_lanes (f : Fin 4096 → EReal) : ∑ d : Dev nD, ∑ k : Fin 1024, f (lane d k) = ∑ l : Fin 4096, f l := by
  have h := Fin.sum_univ_univ_mul_add 4 1024 (fun n => if hn : n < 4096 then f ⟨n, hn⟩ else 0)
  have hl : ∑ l : Fin 4096, f l = ∑ l : Fin (4 * 1024), (fun n => if hn : n < 4096 then f ⟨n, hn⟩ else 0) l.val := by
    show ∑ l : Fin 4096, f l = ∑ l : Fin 4096, (fun n => if hn : n < 4096 then f ⟨n, hn⟩ else 0) l.val
    refine Finset.sum_congr rfl fun l _ => ?_
    show f l = if hn : l.val < 4096 then f ⟨l.val, hn⟩ else 0
    rw [dif_pos l.isLt]
  rw [hl, ← h]
  refine Finset.sum_congr rfl fun d _ => Finset.sum_congr rfl fun k _ => ?_
  have hk : d.val * 1024 + k.val < 4096 := (lane d k).isLt
  show f (lane d k) = if hn : d.val * 1024 + k.val < 4096 then f ⟨_, hn⟩ else 0
  rw [dif_pos hk]
  rfl

theorem outW_block (a b : FVec Ideal ⟨1, ![1]⟩ .f32)
    (hX : ∀ d : Dev nD, m ((d.tc : Thread nD τ).loc main_arg0) = Layout.block ⟨2, ![4096, 1024]⟩ ⟨2, ![4096, 4096]⟩ 1 4 d X)
    (hW : ∀ d : Dev nD, m ((d.tc : Thread nD τ).loc main_arg1) = Layout.block ⟨2, ![1024, 8192]⟩ ⟨2, ![4096, 8192]⟩ 0 4 d W)
    (c : Dev nD) (ha : m ((c.tc : Thread nD τ).loc main_arg2) = a) (hb : m ((c.tc : Thread nD τ).loc main_arg3) = b) :
    outW m c = Layout.block ⟨2, ![1024, 8192]⟩ ⟨2, ![4096, 8192]⟩ 0 4 c (refV X W a b) := by
  funext j
  have hj : (Layout.Tiles.idx (S := ⟨2, ![1024, 8192]⟩) (T := ⟨2, ![4096, 8192]⟩) (a := 0) (k := 4) (by decide) c j) = ix2 (rowOf c (j 0)) (j 1) := by
    funext a
    match a with
    | ⟨0, _⟩ =>
      refine Fin.ext ?_
      show c.val * 1024 + (j 0).val = 1024 * c.val + (j 0).val
      omega
    | ⟨1, _⟩ => exact Fin.ext rfl
  have ht : tot m c j = ∑ l : Fin 4096, (X (ix2 (rowOf c (j 0)) l) * W (ix2 l (j 1)) : EReal) := by
    unfold tot
    rw [← sum_lanes fun l => (X (ix2 (rowOf c (j 0)) l) * W (ix2 l (j 1)) : EReal)]
    exact Finset.sum_congr rfl fun d _ => Finset.sum_congr rfl fun k _ =>
      congrArg₂ (fun u v : EReal => u * v) (xq_at m X d (hX d) (rowOf c (j 0)) k) (wq_at m W d (hW d) k (j 1))
  rw [Layout.block_apply, hj]
  refine Eq.trans ?_ (refV_at X W a b (rowOf c (j 0)) (j 1)).symm
  unfold outW sx sw
  exact congr (congr (congrArg epi ht) (congrFun ha one1)) (congrFun hb one1)

theorem algebraic : Cert.algebraic_KernelIdeal_ReferenceIdeal := fun m g m' g' _ hin =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ h c =>
      ⟨(((h.1 c).1 (2 : Fin 3)).trans (final_2 m g c)).trans
        (outW_block m _ _ _ _ (fun d => (hin d).1) (fun d => (hin d).2.1) c (hin c).2.2.1 (hin c).2.2.2), args_of h.1 c⟩)
      (run_main (F := Ideal) m g),
    (θ_run Cert.ReferenceIdeal.defs _ _).mono (fun _ h => h 0) (Cert.ReferenceIdeal.Value.run (F := Ideal) m' g')⟩

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.frame_kernel, Cert.KProof.frame_ideal, Cert.KProof.frame_reference, trivial, Cert.KProof.algebraic⟩

end Cert.Proof

end
